-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x17920 : Shape := ⟨3, ![8, 1, 17920]⟩
abbrev S5120x4480x3 : Shape := ⟨3, ![5120, 4480, 3]⟩
abbrev S5120 : Shape := ⟨1, ![5120]⟩
abbrev S3x5120x4480 : Shape := ⟨3, ![3, 5120, 4480]⟩
abbrev S8x4480x4 : Shape := ⟨3, ![8, 4480, 4]⟩
abbrev S4x8x4480 : Shape := ⟨3, ![4, 8, 4480]⟩
abbrev S4x4 : Shape := ⟨2, ![4, 4]⟩
abbrev S_ : Shape := ⟨0, ![]⟩
abbrev S1x4x1x1x4 : Shape := ⟨5, ![1, 4, 1, 1, 4]⟩
abbrev S4x1x8x4480x1 : Shape := ⟨5, ![4, 1, 8, 4480, 1]⟩
abbrev S4x4x8x4480x4 : Shape := ⟨5, ![4, 4, 8, 4480, 4]⟩
abbrev S4x32x17920 : Shape := ⟨3, ![4, 32, 17920]⟩
abbrev S1280x4 : Shape := ⟨2, ![1280, 4]⟩
abbrev S4x1280 : Shape := ⟨2, ![4, 1280]⟩
abbrev S4x8x1280 : Shape := ⟨3, ![4, 8, 1280]⟩
abbrev S32x1280 : Shape := ⟨2, ![32, 1280]⟩
abbrev S4x32x2560 : Shape := ⟨3, ![4, 32, 2560]⟩
abbrev S3x1024x640 : Shape := ⟨3, ![3, 1024, 640]⟩
abbrev S32x256 : Shape := ⟨2, ![32, 256]⟩
abbrev S1x1024x640 : Shape := ⟨3, ![1, 1024, 640]⟩
abbrev S1024x640 : Shape := ⟨2, ![1024, 640]⟩
abbrev S256x640 : Shape := ⟨2, ![256, 640]⟩
abbrev S640x256 : Shape := ⟨2, ![640, 256]⟩
abbrev S2560x256 : Shape := ⟨2, ![2560, 256]⟩
abbrev S1x32x2560 : Shape := ⟨3, ![1, 32, 2560]⟩
abbrev S32x2560 : Shape := ⟨2, ![32, 2560]⟩
abbrev S8x1280x4 : Shape := ⟨3, ![8, 1280, 4]⟩
abbrev S8x1x5120 : Shape := ⟨3, ![8, 1, 5120]⟩

abbrev nBuf : Space → Nat
  | .hbm => 33
  | .vmem => 9
  | .smem => 0
  | _ => 0

abbrev bufTy : (tb : Table) → Fin (tcTables nBuf tb) → BufTy
  | .hbm, ⟨0, _⟩ => ⟨S8x1x17920, .bf16⟩
  | .hbm, ⟨1, _⟩ => ⟨S5120x4480x3, .i8⟩
  | .hbm, ⟨2, _⟩ => ⟨S5120, .f32⟩
  | .hbm, ⟨3, _⟩ => ⟨S3x5120x4480, .i8⟩
  | .hbm, ⟨4, _⟩ => ⟨S8x4480x4, .bf16⟩
  | .hbm, ⟨5, _⟩ => ⟨S4x8x4480, .bf16⟩
  | .hbm, ⟨6, _⟩ => ⟨S4x4, .i32⟩
  | .hbm, ⟨7, _⟩ => ⟨S4x4, .i32⟩
  | .hbm, ⟨8, _⟩ => ⟨S_, .i32⟩
  | .hbm, ⟨9, _⟩ => ⟨S4x4, .i32⟩
  | .hbm, ⟨10, _⟩ => ⟨S4x4, .i32⟩
  | .hbm, ⟨11, _⟩ => ⟨S4x4, .i1⟩
  | .hbm, ⟨12, _⟩ => ⟨S4x4, .bf16⟩
  | .hbm, ⟨13, _⟩ => ⟨S1x4x1x1x4, .bf16⟩
  | .hbm, ⟨14, _⟩ => ⟨S_, .bf16⟩
  | .hbm, ⟨15, _⟩ => ⟨S1x4x1x1x4, .bf16⟩
  | .hbm, ⟨16, _⟩ => ⟨S1x4x1x1x4, .i1⟩
  | .hbm, ⟨17, _⟩ => ⟨S4x1x8x4480x1, .bf16⟩
  | .hbm, ⟨18, _⟩ => ⟨S_, .i32⟩
  | .hbm, ⟨19, _⟩ => ⟨S_, .bf16⟩
  | .hbm, ⟨20, _⟩ => ⟨S4x4x8x4480x4, .i1⟩
  | .hbm, ⟨21, _⟩ => ⟨S4x4x8x4480x4, .bf16⟩
  | .hbm, ⟨22, _⟩ => ⟨S4x4x8x4480x4, .bf16⟩
  | .hbm, ⟨23, _⟩ => ⟨S4x4x8x4480x4, .bf16⟩
  | .hbm, ⟨24, _⟩ => ⟨S4x32x17920, .bf16⟩
  | .hbm, ⟨25, _⟩ => ⟨S1280x4, .f32⟩
  | .hbm, ⟨26, _⟩ => ⟨S4x1280, .f32⟩
  | .hbm, ⟨27, _⟩ => ⟨S4x8x1280, .f32⟩
  | .hbm, ⟨28, _⟩ => ⟨S32x1280, .f32⟩
  | .hbm, ⟨29, _⟩ => ⟨S32x1280, .bf16⟩
  | .hbm, ⟨30, _⟩ => ⟨S4x8x1280, .bf16⟩
  | .hbm, ⟨31, _⟩ => ⟨S8x1280x4, .bf16⟩
  | .hbm, ⟨32, _⟩ => ⟨S8x1x5120, .bf16⟩
  | .local _ .vmem, ⟨0, _⟩ => ⟨S4x32x2560, .bf16⟩
  | .local _ .vmem, ⟨1, _⟩ => ⟨S4x32x2560, .bf16⟩
  | .local _ .vmem, ⟨2, _⟩ => ⟨S3x1024x640, .i8⟩
  | .local _ .vmem, ⟨3, _⟩ => ⟨S3x1024x640, .i8⟩
  | .local _ .vmem, ⟨4, _⟩ => ⟨S32x256, .f32⟩
  | .local _ .vmem, ⟨5, _⟩ => ⟨S32x256, .f32⟩
  | .local _ .vmem, ⟨6, _⟩ => ⟨S32x256, .bf16⟩
  | .local _ .vmem, ⟨7, _⟩ => ⟨S32x256, .bf16⟩
  | .local _ .vmem, ⟨8, _⟩ => ⟨S32x256, .f32⟩
  | _, _ => ⟨S8x1x17920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 7], ![false, false]⟩

def k0_cond2 (i : grid0.Coords) : BitVec 1 :=
  let arg1 : BitVec 32 := BitVec.ofNat 32 (i 1).val
  let c6_i32_34 : BitVec 32 := 6#32
  let v83 : BitVec 1 := Scalar.cmpi .eq arg1 c6_i32_34
  let v84 : BitVec 32 := Scalar.extui v83
  let c0_i32_35 : BitVec 32 := 0#32
  let v85 : BitVec 1 := Scalar.cmpi .ne v84 c0_i32_35
  v85

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x32x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3x1024x640 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S8x1x17920 : Shape := ⟨3, ![8, 1, 17920]⟩
abbrev S5120x4480x3 : Shape := ⟨3, ![5120, 4480, 3]⟩
abbrev S5120 : Shape := ⟨1, ![5120]⟩
abbrev S5120x4480x1 : Shape := ⟨3, ![5120, 4480, 1]⟩
abbrev S5120x4480 : Shape := ⟨2, ![5120, 4480]⟩
abbrev S_ : Shape := ⟨0, ![]⟩
abbrev S8x1x4480 : Shape := ⟨3, ![8, 1, 4480]⟩
abbrev S8x1x5120 : Shape := ⟨3, ![8, 1, 5120]⟩
abbrev S1x1x5120 : Shape := ⟨3, ![1, 1, 5120]⟩

abbrev nBuf : Space → Nat
  | .hbm => 225
  | .vmem => 0
  | .smem => 0
  | _ => 0

abbrev hbmTy0_0 (i : Nat) : BufTy := match i % 128 with
  | 0 => ⟨S8x1x17920, .bf16⟩
  | 1 => ⟨S5120x4480x3, .i8⟩
  | 2 => ⟨S5120, .f32⟩
  | 3 => ⟨S5120x4480x3, .i32⟩
  | 4 => ⟨S5120x4480x1, .i32⟩
  | 5 => ⟨S5120x4480, .i32⟩
  | 6 => ⟨S5120x4480x1, .i32⟩
  | 7 => ⟨S5120x4480, .i32⟩
  | 8 => ⟨S_, .i32⟩
  | 9 => ⟨S5120x4480, .i32⟩
  | 10 => ⟨S5120x4480, .i32⟩
  | 11 => ⟨S5120x4480, .i32⟩
  | 12 => ⟨S5120x4480x1, .i32⟩
  | 13 => ⟨S5120x4480, .i32⟩
  | 14 => ⟨S_, .i32⟩
  | 15 => ⟨S5120x4480, .i32⟩
  | 16 => ⟨S5120x4480, .i32⟩
  | 17 => ⟨S5120x4480, .i32⟩
  | 18 => ⟨S_, .i32⟩
  | 19 => ⟨S5120x4480, .i32⟩
  | 20 => ⟨S5120x4480, .i32⟩
  | 21 => ⟨S_, .i32⟩
  | 22 => ⟨S5120x4480, .i32⟩
  | 23 => ⟨S5120x4480, .i32⟩
  | 24 => ⟨S_, .i32⟩
  | 25 => ⟨S5120x4480, .i32⟩
  | 26 => ⟨S5120x4480, .i32⟩
  | 27 => ⟨S5120x4480, .f32⟩
  | 28 => ⟨S_, .i32⟩
  | 29 => ⟨S5120x4480, .i32⟩
  | 30 => ⟨S5120x4480, .i32⟩
  | 31 => ⟨S_, .i32⟩
  | 32 => ⟨S5120x4480, .i32⟩
  | 33 => ⟨S5120x4480, .i32⟩
  | 34 => ⟨S5120x4480, .i32⟩
  | 35 => ⟨S_, .i32⟩
  | 36 => ⟨S5120x4480, .i32⟩
  | 37 => ⟨S5120x4480, .i32⟩
  | 38 => ⟨S5120x4480, .f32⟩
  | 39 => ⟨S_, .i32⟩
  | 40 => ⟨S5120x4480, .i32⟩
  | 41 => ⟨S5120x4480, .i1⟩
  | 42 => ⟨S_, .f32⟩
  | 43 => ⟨S5120x4480, .f32⟩
  | 44 => ⟨S5120x4480, .f32⟩
  | 45 => ⟨S_, .f32⟩
  | 46 => ⟨S5120x4480, .f32⟩
  | 47 => ⟨S5120x4480, .f32⟩
  | 48 => ⟨S_, .i32⟩
  | 49 => ⟨S5120x4480, .i32⟩
  | 50 => ⟨S5120x4480, .i32⟩
  | 51 => ⟨S5120x4480, .f32⟩
  | 52 => ⟨S_, .f32⟩
  | 53 => ⟨S5120x4480, .f32⟩
  | 54 => ⟨S5120x4480, .f32⟩
  | 55 => ⟨S5120x4480, .f32⟩
  | 56 => ⟨S5120x4480, .f32⟩
  | 57 => ⟨S5120x4480, .f32⟩
  | 58 => ⟨S_, .f32⟩
  | 59 => ⟨S5120x4480, .f32⟩
  | 60 => ⟨S5120x4480, .f32⟩
  | 61 => ⟨S_, .f32⟩
  | 62 => ⟨S5120x4480, .f32⟩
  | 63 => ⟨S5120x4480, .f32⟩
  | 64 => ⟨S5120x4480, .f32⟩
  | 65 => ⟨S5120x4480, .bf16⟩
  | 66 => ⟨S8x1x4480, .bf16⟩
  | 67 => ⟨S8x1x5120, .f32⟩
  | 68 => ⟨S_, .i32⟩
  | 69 => ⟨S5120x4480, .i32⟩
  | 70 => ⟨S5120x4480, .i32⟩
  | 71 => ⟨S_, .i32⟩
  | 72 => ⟨S5120x4480, .i32⟩
  | 73 => ⟨S5120x4480, .i32⟩
  | 74 => ⟨S_, .i32⟩
  | 75 => ⟨S5120x4480, .i32⟩
  | 76 => ⟨S5120x4480, .i32⟩
  | 77 => ⟨S5120x4480, .f32⟩
  | 78 => ⟨S_, .i32⟩
  | 79 => ⟨S5120x4480, .i32⟩
  | 80 => ⟨S5120x4480, .i32⟩
  | 81 => ⟨S_, .i32⟩
  | 82 => ⟨S5120x4480, .i32⟩
  | 83 => ⟨S5120x4480, .i32⟩
  | 84 => ⟨S5120x4480, .i32⟩
  | 85 => ⟨S_, .i32⟩
  | 86 => ⟨S5120x4480, .i32⟩
  | 87 => ⟨S5120x4480, .i32⟩
  | 88 => ⟨S5120x4480, .f32⟩
  | 89 => ⟨S_, .i32⟩
  | 90 => ⟨S5120x4480, .i32⟩
  | 91 => ⟨S5120x4480, .i1⟩
  | 92 => ⟨S_, .f32⟩
  | 93 => ⟨S5120x4480, .f32⟩
  | 94 => ⟨S5120x4480, .f32⟩
  | 95 => ⟨S_, .f32⟩
  | 96 => ⟨S5120x4480, .f32⟩
  | 97 => ⟨S5120x4480, .f32⟩
  | 98 => ⟨S_, .i32⟩
  | 99 => ⟨S5120x4480, .i32⟩
  | 100 => ⟨S5120x4480, .i32⟩
  | 101 => ⟨S5120x4480, .f32⟩
  | 102 => ⟨S_, .f32⟩
  | 103 => ⟨S5120x4480, .f32⟩
  | 104 => ⟨S5120x4480, .f32⟩
  | 105 => ⟨S5120x4480, .f32⟩
  | 106 => ⟨S5120x4480, .f32⟩
  | 107 => ⟨S5120x4480, .f32⟩
  | 108 => ⟨S_, .f32⟩
  | 109 => ⟨S5120x4480, .f32⟩
  | 110 => ⟨S5120x4480, .f32⟩
  | 111 => ⟨S_, .f32⟩
  | 112 => ⟨S5120x4480, .f32⟩
  | 113 => ⟨S5120x4480, .f32⟩
  | 114 => ⟨S5120x4480, .f32⟩
  | 115 => ⟨S5120x4480, .bf16⟩
  | 116 => ⟨S8x1x4480, .bf16⟩
  | 117 => ⟨S8x1x5120, .f32⟩
  | 118 => ⟨S8x1x5120, .f32⟩
  | 119 => ⟨S_, .i32⟩
  | 120 => ⟨S5120x4480, .i32⟩
  | 121 => ⟨S5120x4480, .i32⟩
  | 122 => ⟨S_, .i32⟩
  | 123 => ⟨S5120x4480, .i32⟩
  | 124 => ⟨S5120x4480, .i32⟩
  | 125 => ⟨S_, .i32⟩
  | 126 => ⟨S5120x4480, .i32⟩
  | 127 => ⟨S5120x4480, .i32⟩
  | _ => ⟨S8x1x17920, .bf16⟩

abbrev hbmTy0_1 (i : Nat) : BufTy := match i % 128 with
  | 0 => ⟨S5120x4480, .f32⟩
  | 1 => ⟨S_, .i32⟩
  | 2 => ⟨S5120x4480, .i32⟩
  | 3 => ⟨S5120x4480, .i32⟩
  | 4 => ⟨S_, .i32⟩
  | 5 => ⟨S5120x4480, .i32⟩
  | 6 => ⟨S5120x4480, .i32⟩
  | 7 => ⟨S5120x4480, .i32⟩
  | 8 => ⟨S_, .i32⟩
  | 9 => ⟨S5120x4480, .i32⟩
  | 10 => ⟨S5120x4480, .i32⟩
  | 11 => ⟨S5120x4480, .f32⟩
  | 12 => ⟨S_, .i32⟩
  | 13 => ⟨S5120x4480, .i32⟩
  | 14 => ⟨S5120x4480, .i1⟩
  | 15 => ⟨S_, .f32⟩
  | 16 => ⟨S5120x4480, .f32⟩
  | 17 => ⟨S5120x4480, .f32⟩
  | 18 => ⟨S_, .f32⟩
  | 19 => ⟨S5120x4480, .f32⟩
  | 20 => ⟨S5120x4480, .f32⟩
  | 21 => ⟨S_, .i32⟩
  | 22 => ⟨S5120x4480, .i32⟩
  | 23 => ⟨S5120x4480, .i32⟩
  | 24 => ⟨S5120x4480, .f32⟩
  | 25 => ⟨S_, .f32⟩
  | 26 => ⟨S5120x4480, .f32⟩
  | 27 => ⟨S5120x4480, .f32⟩
  | 28 => ⟨S5120x4480, .f32⟩
  | 29 => ⟨S5120x4480, .f32⟩
  | 30 => ⟨S5120x4480, .f32⟩
  | 31 => ⟨S_, .f32⟩
  | 32 => ⟨S5120x4480, .f32⟩
  | 33 => ⟨S5120x4480, .f32⟩
  | 34 => ⟨S_, .f32⟩
  | 35 => ⟨S5120x4480, .f32⟩
  | 36 => ⟨S5120x4480, .f32⟩
  | 37 => ⟨S5120x4480, .f32⟩
  | 38 => ⟨S5120x4480, .bf16⟩
  | 39 => ⟨S8x1x4480, .bf16⟩
  | 40 => ⟨S8x1x5120, .f32⟩
  | 41 => ⟨S8x1x5120, .f32⟩
  | 42 => ⟨S_, .i32⟩
  | 43 => ⟨S5120x4480, .i32⟩
  | 44 => ⟨S5120x4480, .i32⟩
  | 45 => ⟨S_, .i32⟩
  | 46 => ⟨S5120x4480, .i32⟩
  | 47 => ⟨S5120x4480, .i32⟩
  | 48 => ⟨S_, .i32⟩
  | 49 => ⟨S5120x4480, .i32⟩
  | 50 => ⟨S5120x4480, .i32⟩
  | 51 => ⟨S5120x4480, .f32⟩
  | 52 => ⟨S_, .i32⟩
  | 53 => ⟨S5120x4480, .i32⟩
  | 54 => ⟨S5120x4480, .i32⟩
  | 55 => ⟨S_, .i32⟩
  | 56 => ⟨S5120x4480, .i32⟩
  | 57 => ⟨S5120x4480, .i32⟩
  | 58 => ⟨S5120x4480, .i32⟩
  | 59 => ⟨S_, .i32⟩
  | 60 => ⟨S5120x4480, .i32⟩
  | 61 => ⟨S5120x4480, .i32⟩
  | 62 => ⟨S5120x4480, .f32⟩
  | 63 => ⟨S_, .i32⟩
  | 64 => ⟨S5120x4480, .i32⟩
  | 65 => ⟨S5120x4480, .i1⟩
  | 66 => ⟨S_, .f32⟩
  | 67 => ⟨S5120x4480, .f32⟩
  | 68 => ⟨S5120x4480, .f32⟩
  | 69 => ⟨S_, .f32⟩
  | 70 => ⟨S5120x4480, .f32⟩
  | 71 => ⟨S5120x4480, .f32⟩
  | 72 => ⟨S_, .i32⟩
  | 73 => ⟨S5120x4480, .i32⟩
  | 74 => ⟨S5120x4480, .i32⟩
  | 75 => ⟨S5120x4480, .f32⟩
  | 76 => ⟨S_, .f32⟩
  | 77 => ⟨S5120x4480, .f32⟩
  | 78 => ⟨S5120x4480, .f32⟩
  | 79 => ⟨S5120x4480, .f32⟩
  | 80 => ⟨S5120x4480, .f32⟩
  | 81 => ⟨S5120x4480, .f32⟩
  | 82 => ⟨S_, .f32⟩
  | 83 => ⟨S5120x4480, .f32⟩
  | 84 => ⟨S5120x4480, .f32⟩
  | 85 => ⟨S_, .f32⟩
  | 86 => ⟨S5120x4480, .f32⟩
  | 87 => ⟨S5120x4480, .f32⟩
  | 88 => ⟨S5120x4480, .f32⟩
  | 89 => ⟨S5120x4480, .bf16⟩
  | 90 => ⟨S8x1x4480, .bf16⟩
  | 91 => ⟨S8x1x5120, .f32⟩
  | 92 => ⟨S8x1x5120, .f32⟩
  | 93 => ⟨S1x1x5120, .f32⟩
  | 94 => ⟨S8x1x5120, .f32⟩
  | 95 => ⟨S8x1x5120, .f32⟩
  | 96 => ⟨S8x1x5120, .bf16⟩
  | _ => ⟨S8x1x17920, .bf16⟩

abbrev hbmTy (i : Nat) : BufTy := match i / 128 with
  | 0 => hbmTy0_0 i
  | 1 => hbmTy0_1 i
  | _ => ⟨S8x1x17920, .bf16⟩

abbrev bufTy : (tb : Table) → Fin (tcTables nBuf tb) → BufTy
  | .hbm, ⟨i, _⟩ => hbmTy i
  | _, _ => ⟨S8x1x17920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_13 : Ref sig .tc := ⟨.hbm, 68, rfl⟩
abbrev main_v50 : Ref sig .tc := ⟨.hbm, 69, rfl⟩
abbrev main_v51 : Ref sig .tc := ⟨.hbm, 70, rfl⟩
abbrev main_c_14 : Ref sig .tc := ⟨.hbm, 71, rfl⟩
abbrev main_v52 : Ref sig .tc := ⟨.hbm, 72, rfl⟩
abbrev main_v53 : Ref sig .tc := ⟨.hbm, 73, rfl⟩
abbrev main_c_15 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_16 : Ref sig .tc := ⟨.hbm, 78, rfl⟩
abbrev main_v57 : Ref sig .tc := ⟨.hbm, 79, rfl⟩
abbrev main_v58 : Ref sig .tc := ⟨.hbm, 80, rfl⟩
abbrev main_c_17 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_18 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_19 : Ref sig .tc := ⟨.hbm, 89, rfl⟩
abbrev main_v65 : Ref sig .tc := ⟨.hbm, 90, rfl⟩
abbrev main_v66 : Ref sig .tc := ⟨.hbm, 91, rfl⟩
abbrev main_cst_20 : Ref sig .tc := ⟨.hbm, 92, rfl⟩
abbrev main_v67 : Ref sig .tc := ⟨.hbm, 93, rfl⟩
abbrev main_v68 : Ref sig .tc := ⟨.hbm, 94, rfl⟩
abbrev main_cst_21 : Ref sig .tc := ⟨.hbm, 95, rfl⟩
abbrev main_v69 : Ref sig .tc := ⟨.hbm, 96, rfl⟩
abbrev main_v70 : Ref sig .tc := ⟨.hbm, 97, rfl⟩
abbrev main_c_22 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_23 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_24 : Ref sig .tc := ⟨.hbm, 108, rfl⟩
abbrev main_v79 : Ref sig .tc := ⟨.hbm, 109, rfl⟩
abbrev main_v80 : Ref sig .tc := ⟨.hbm, 110, rfl⟩
abbrev main_cst_25 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_26 : Ref sig .tc := ⟨.hbm, 119, rfl⟩
abbrev main_v88 : Ref sig .tc := ⟨.hbm, 120, rfl⟩
abbrev main_v89 : Ref sig .tc := ⟨.hbm, 121, rfl⟩
abbrev main_c_27 : Ref sig .tc := ⟨.hbm, 122, rfl⟩
abbrev main_v90 : Ref sig .tc := ⟨.hbm, 123, rfl⟩
abbrev main_v91 : Ref sig .tc := ⟨.hbm, 124, rfl⟩
abbrev main_c_28 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_29 : Ref sig .tc := ⟨.hbm, 129, rfl⟩
abbrev main_v95 : Ref sig .tc := ⟨.hbm, 130, rfl⟩
abbrev main_v96 : Ref sig .tc := ⟨.hbm, 131, rfl⟩
abbrev main_c_30 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_31 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_32 : Ref sig .tc := ⟨.hbm, 140, rfl⟩
abbrev main_v103 : Ref sig .tc := ⟨.hbm, 141, rfl⟩
abbrev main_v104 : Ref sig .tc := ⟨.hbm, 142, rfl⟩
abbrev main_cst_33 : Ref sig .tc := ⟨.hbm, 143, rfl⟩
abbrev main_v105 : Ref sig .tc := ⟨.hbm, 144, rfl⟩
abbrev main_v106 : Ref sig .tc := ⟨.hbm, 145, rfl⟩
abbrev main_cst_34 : Ref sig .tc := ⟨.hbm, 146, rfl⟩
abbrev main_v107 : Ref sig .tc := ⟨.hbm, 147, rfl⟩
abbrev main_v108 : Ref sig .tc := ⟨.hbm, 148, rfl⟩
abbrev main_c_35 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_36 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_37 : Ref sig .tc := ⟨.hbm, 159, rfl⟩
abbrev main_v117 : Ref sig .tc := ⟨.hbm, 160, rfl⟩
abbrev main_v118 : Ref sig .tc := ⟨.hbm, 161, rfl⟩
abbrev main_cst_38 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_c_39 : Ref sig .tc := ⟨.hbm, 170, rfl⟩
abbrev main_v126 : Ref sig .tc := ⟨.hbm, 171, rfl⟩
abbrev main_v127 : Ref sig .tc := ⟨.hbm, 172, rfl⟩
abbrev main_c_40 : Ref sig .tc := ⟨.hbm, 173, rfl⟩
abbrev main_v128 : Ref sig .tc := ⟨.hbm, 174, rfl⟩
abbrev main_v129 : Ref sig .tc := ⟨.hbm, 175, rfl⟩
abbrev main_c_41 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_42 : Ref sig .tc := ⟨.hbm, 180, rfl⟩
abbrev main_v133 : Ref sig .tc := ⟨.hbm, 181, rfl⟩
abbrev main_v134 : Ref sig .tc := ⟨.hbm, 182, rfl⟩
abbrev main_c_43 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_c_44 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_c_45 : Ref sig .tc := ⟨.hbm, 191, rfl⟩
abbrev main_v141 : Ref sig .tc := ⟨.hbm, 192, rfl⟩
abbrev main_v142 : Ref sig .tc := ⟨.hbm, 193, rfl⟩
abbrev main_cst_46 : Ref sig .tc := ⟨.hbm, 194, rfl⟩
abbrev main_v143 : Ref sig .tc := ⟨.hbm, 195, rfl⟩
abbrev main_v144 : Ref sig .tc := ⟨.hbm, 196, rfl⟩
abbrev main_cst_47 : Ref sig .tc := ⟨.hbm, 197, rfl⟩
abbrev main_v145 : Ref sig .tc := ⟨.hbm, 198, rfl⟩
abbrev main_v146 : Ref sig .tc := ⟨.hbm, 199, rfl⟩
abbrev main_c_48 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_49 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_cst_50 : Ref sig .tc := ⟨.hbm, 210, rfl⟩
abbrev main_v155 : Ref sig .tc := ⟨.hbm, 211, rfl⟩
abbrev main_v156 : Ref sig .tc := ⟨.hbm, 212, rfl⟩
abbrev main_cst_51 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩

abbrev nD : Nat := 1
abbrev τ : Topo := Topo.v7x

variable {F : FTy → Type} [FloatOps F]
-- ==== Proof.KStep.lean ====
/-
  What the kernel's body leaves at one grid point, as plain functions of the blocks it reads: `stepV` (the accumulator plus
  the four products of the point) and `finV` (the block written out at the last point of a column of the grid). The three
  cases of the body's conditionals, as the frame names them, are these functions.
-/
module

public import proofs.«01_k».proof.Proof.Gen.KernelIdeal.Frame
public import Idealize.ShloMosaic.Lib.Pipeline.Value

@[expose] public section

noncomputable section

namespace Cert.KernelIdeal.Step

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- Byte plane `p` of the packed block, as the body loads it. -/
abbrev w0V (x1 : Vec F S3x1024x640 .i8) : Vec F S1x1024x640 .i8 :=
  View.ld x1 (Rect.unit (s := S3x1024x640) ![0, 0, 0] S1x1024x640.size inb_S3x1024x640_S1x1024x640_0_0_0)
abbrev w1V (x1 : Vec F S3x1024x640 .i8) : Vec F S1x1024x640 .i8 :=
  View.ld x1 (Rect.unit (s := S3x1024x640) ![1, 0, 0] S1x1024x640.size inb_S3x1024x640_S1x1024x640_1_0_0)
abbrev w2V (x1 : Vec F S3x1024x640 .i8) : Vec F S1x1024x640 .i8 :=
  View.ld x1 (Rect.unit (s := S3x1024x640) ![2, 0, 0] S1x1024x640.size inb_S3x1024x640_S1x1024x640_2_0_0)

/-- The activations of field `f`, as the body loads them. -/
abbrev a0V (x0 : Vec F S4x32x2560 .bf16) : Vec F S1x32x2560 .bf16 :=
  View.ld x0 (Rect.unit (s := S4x32x2560) ![0, 0, 0] S1x32x2560.size inb_S4x32x2560_S1x32x2560_0_0_0)
abbrev a1V (x0 : Vec F S4x32x2560 .bf16) : Vec F S1x32x2560 .bf16 :=
  View.ld x0 (Rect.unit (s := S4x32x2560) ![1, 0, 0] S1x32x2560.size inb_S4x32x2560_S1x32x2560_1_0_0)
abbrev a2V (x0 : Vec F S4x32x2560 .bf16) : Vec F S1x32x2560 .bf16 :=
  View.ld x0 (Rect.unit (s := S4x32x2560) ![2, 0, 0] S1x32x2560.size inb_S4x32x2560_S1x32x2560_2_0_0)
abbrev a3V (x0 : Vec F S4x32x2560 .bf16) : Vec F S1x32x2560 .bf16 :=
  View.ld x0 (Rect.unit (s := S4x32x2560) ![3, 0, 0] S1x32x2560.size inb_S4x32x2560_S1x32x2560_3_0_0)

/-- The accumulator after a point's body, over what it held before. -/
def stepV (x0 : Vec F S4x32x2560 .bf16) (x1 : Vec F S3x1024x640 .i8) (acc : Vec F S32x256 .f32) : FVec F S32x256 .f32 :=
  k0_pay1 (k0_pay12 (k0_pay7 (w2V x1)))
    (k0_pay13 acc (k0_pay8 (w0V x1)) (k0_pay9 (w0V x1) (w1V x1)) (a0V x0) (a1V x0))
    (k0_pay14 (k0_pay10 (w1V x1)) (k0_pay11 (w2V x1)) (a2V x0)) (a3V x0)

/-- The block written out: the accumulator times 4096 times the scale, narrowed. -/
def finV (acc : Vec F S32x256 .f32) (x2 : Vec F S32x256 .f32) : FVec F S32x256 .bf16 :=
  truncf .bf16 (mulf (mulf acc (broadcast S32x256 (Scalar.ofBits .f32 0x45800000#32))) x2) bitsLt_bf16_f32

/-- The zero block the first point of each column of the grid starts from. -/
abbrev zeroV : Vec F S32x256 .f32 := broadcast S32x256 (Scalar.ofBits .f32 0x00000000#32)

/-- The body leaves `stepV` of what the scratch held, at a point that is neither first nor last. -/
theorem sout_B (c : Dev nD) (i : grid0.Coords) (a2 : Memref sig .tc .vmem S4x32x2560 .bf16) (h2 : a2.IsWhole)
    (a3 : Memref sig .tc .vmem S3x1024x640 .i8) (h3 : a3.IsWhole) (a4 : Memref sig .tc .vmem S32x256 .f32) (h4 : a4.IsWhole)
    (a5 : Memref sig .tc .vmem S32x256 .bf16) (h5 : a5.IsWhole) (a6 : Memref sig .tc .vmem S32x256 .f32) (h6 : a6.IsWhole)
    (hc0 : ¬cond0_0 i) (hc1 : ¬cond0_1 i) (x0 : Vec F S4x32x2560 .bf16) (x1 : Vec F S3x1024x640 .i8) (x2 xs : Vec F S32x256 .f32) :
    sout0_B_0 c i a2 h2 a3 h3 a4 h4 a5 h5 a6 h6 hc0 hc1 x0 x1 x2 xs = stepV x0 x1 xs := by
  unfold sout0_B_0
  rw [View.read_writes_eq_canon _ _ _ (scover0_B_0 c i a2 h2 a3 h3 a4 h4 a5 h5 a6 h6 hc0 hc1 x0 x1 x2 xs)]
  unfold kernelRun0_B
  dsimp only
  sl_unfold_words
  rw [View.canon_unit_zero hz]
  unfold k0_pay2 stepV
  simp only [View.readAt_eq_ld, h2.read_unread, h3.read_unread, h6.read_unread, View.ld_unit_zero (S := S32x256) hz, shapeCast_self]

/-- The same at the last point of a column of the grid. -/
theorem sout_C (c : Dev nD) (i : grid0.Coords) (a2 : Memref sig .tc .vmem S4x32x2560 .bf16) (h2 : a2.IsWhole)
    (a3 : Memref sig .tc .vmem S3x1024x640 .i8) (h3 : a3.IsWhole) (a4 : Memref sig .tc .vmem S32x256 .f32) (h4 : a4.IsWhole)
    (a5 : Memref sig .tc .vmem S32x256 .bf16) (h5 : a5.IsWhole) (a6 : Memref sig .tc .vmem S32x256 .f32) (h6 : a6.IsWhole)
    (hc0 : ¬cond0_0 i) (hc1 : cond0_1 i) (x0 : Vec F S4x32x2560 .bf16) (x1 : Vec F S3x1024x640 .i8) (x2 xs : Vec F S32x256 .f32) :
    sout0_C_0 c i a2 h2 a3 h3 a4 h4 a5 h5 a6 h6 hc0 hc1 x0 x1 x2 xs = stepV x0 x1 xs := by
  unfold sout0_C_0
  rw [View.read_writes_eq_canon _ _ _ (scover0_C_0 c i a2 h2 a3 h3 a4 h4 a5 h5 a6 h6 hc0 hc1 x0 x1 x2 xs)]
  unfold kernelRun0_C
  dsimp only
  sl_unfold_words
  rw [View.canon_unit_zero hz]
  unfold k0_pay2 stepV
  simp only [View.readAt_eq_ld, h2.read_unread, h3.read_unread, h6.read_unread, View.ld_unit_zero (S := S32x256) hz, shapeCast_self]

/-- At the first point of a column of the grid the scratch is zeroed first. -/
theorem sout_A (c : Dev nD) (i : grid0.Coords) (a2 : Memref sig .tc .vmem S4x32x2560 .bf16) (h2 : a2.IsWhole)
    (a3 : Memref sig .tc .vmem S3x1024x640 .i8) (h3 : a3.IsWhole) (a4 : Memref sig .tc .vmem S32x256 .f32) (h4 : a4.IsWhole)
    (a5 : Memref sig .tc .vmem S32x256 .bf16) (h5 : a5.IsWhole) (a6 : Memref sig .tc .vmem S32x256 .f32) (h6 : a6.IsWhole)
    (hc0 : cond0_0 i) (hc1 : ¬cond0_1 i) (x0 : Vec F S4x32x2560 .bf16) (x1 : Vec F S3x1024x640 .i8) (x2 : Vec F S32x256 .f32) :
    sout0_A_0 c i a2 h2 a3 h3 a4 h4 a5 h5 a6 h6 hc0 hc1 x0 x1 x2 = stepV x0 x1 zeroV := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S32x256) hz, View.readCov_unit_zero (S := S32x256) _ hz]
  unfold k0_pay2 k0_pay4 stepV
  simp only [View.readAt_eq_ld, h2.read_unread, h3.read_unread, View.ld_unit_zero (S := S32x256) hz, shapeCast_self]

/-- The block the last point of a column of the grid writes out. -/
theorem out_C (c : Dev nD) (i : grid0.Coords) (a2 : Memref sig .tc .vmem S4x32x2560 .bf16) (h2 : a2.IsWhole)
    (a3 : Memref sig .tc .vmem S3x1024x640 .i8) (h3 : a3.IsWhole) (a4 : Memref sig .tc .vmem S32x256 .f32) (h4 : a4.IsWhole)
    (a5 : Memref sig .tc .vmem S32x256 .bf16) (h5 : a5.IsWhole) (a6 : Memref sig .tc .vmem S32x256 .f32) (h6 : a6.IsWhole)
    (hc0 : ¬cond0_0 i) (hc1 : cond0_1 i) (x0 : Vec F S4x32x2560 .bf16) (x1 : Vec F S3x1024x640 .i8) (x2 xs : Vec F S32x256 .f32) :
    out0_C_3 c i a2 h2 a3 h3 a4 h4 a5 h5 a6 h6 hc0 hc1 x0 x1 x2 xs = finV (stepV x0 x1 xs) x2 := by
  unfold out0_C_3
  rw [View.read_writes_eq_canon _ _ _ (cover0_C_3 c i a2 h2 a3 h3 a4 h4 a5 h5 a6 h6 hc0 hc1 x0 x1 x2 xs)]
  unfold kernelRun0_C
  dsimp only
  sl_unfold_words
  rw [View.canon_unit_zero hz]
  unfold k0_pay3 finV stepV
  simp only [View.readAt_eq_ld, h2.read_unread, h3.read_unread, h4.read_unread, h6.read_unread, View.ld_unit_zero (S := S32x256) hz, shapeCast_self]

/-- The scratch after point `n`, by recursion on the point: restarted from zero at every seventh point. -/
def scr (c : Dev nD) : (n : ℕ) → n < cfg0.N → Vec F S32x256 .f32
  | 0, h => stepV (iblk m c 0 ⟨0, h⟩) (iblk m c 1 ⟨0, h⟩) zeroV
  | n + 1, h => stepV (iblk m c 0 ⟨n + 1, h⟩) (iblk m c 1 ⟨n + 1, h⟩) (if (n + 1) % 7 = 0 then zeroV else scr c n (Nat.lt_of_succ_lt h))

/-- The frame's scratch contents after point `n` are `scr`. -/
theorem outsAt_scr (c : Dev nD) : ∀ (n : ℕ) (h : n < cfg0.N), (outsAt0 m c n h).2 = scr m c n h
  | 0, h => by
    rw [outsAt0_A m c ⟨0, h⟩ (by dsimp only) (by dsimp only; omega)]
    dsimp only
    rw [sout_A, scr]
  | n + 1, h => by
    have ih := outsAt_scr c n (Nat.lt_of_succ_lt h)
    by_cases h0 : (n + 1) % 7 = 0
    · rw [outsAt0_A m c ⟨n + 1, h⟩ h0 (by dsimp only; omega)]
      dsimp only
      rw [sout_A, scr, if_pos h0]
    · by_cases h1 : (n + 1) % 7 = 6
      · rw [outsAt0_C m c ⟨n + 1, h⟩ h0 h1]
        dsimp only
        rw [sout_C, scr, if_neg h0, ← ih]
        rfl
      · rw [outsAt0_B m c ⟨n + 1, h⟩ h0 h1]
        dsimp only
        rw [sout_B, scr, if_neg h0, ← ih]
        rfl

/-- The output's staging contents after the last point of a column of the grid. -/
theorem outsAt_out (c : Dev nD) (t : Fin cfg0.N) (h1 : t.val % 7 = 6) :
    (outsAt0 m c t.val t.isLt).1 = finV (scr m c t.val t.isLt) (iblk m c 2 t) := by
  have h0 : ¬ t.val % 7 = 0 := by omega
  rw [← outsAt_scr, outsAt0_C m c t h0 h1]
  dsimp only
  rw [out_C, sout_C]

end Cert.KernelIdeal.Step

end
-- ==== Proof.Bits.lean ====
/-
  The bit facts of the six-bit codes. Three bytes hold four codes of six bits, low bits first. The kernel extracts a code
  from every byte of a 32-bit word at once (`word0` … `word3`) and re-encodes it as the bits of an 8-bit float
  (`byte_enc`); the reference extracts it from the 24-bit word of the three bytes (`field0` … `field3`).
-/
module

public import Mathlib.Tactic.IntervalCases
public import Idealize.ShloMosaic.PureOps.Ideal

@[expose] public section

namespace Cert.Fp6

open Idealize.ShloMosaic

/-- Byte `q` of a 32-bit word, byte 0 the lowest. -/
def byteOf (W : BitVec 32) (q : ℕ) : BitVec 8 := W.extractLsb' (8 * q) 8

/-- The code of field 0: the low six bits of byte 0. -/
def code0 (b0 : BitVec 8) : BitVec 8 := b0 &&& 63#8
/-- The code of field 1: the high two bits of byte 0 and the low four of byte 1. -/
def code1 (b0 b1 : BitVec 8) : BitVec 8 := (b0 >>> 6) ||| ((b1 <<< 2) &&& 60#8)
/-- The code of field 2: the high four bits of byte 1 and the low two of byte 2. -/
def code2 (b1 b2 : BitVec 8) : BitVec 8 := (b1 >>> 4) ||| ((b2 <<< 4) &&& 48#8)
/-- The code of field 3: the high six bits of byte 2. -/
def code3 (b2 : BitVec 8) : BitVec 8 := b2 >>> 2

/-- The code of field `f` of the three bytes. -/
def code (f : Fin 4) (b0 b1 b2 : BitVec 8) : BitVec 8 :=
  match f with
  | 0 => code0 b0
  | 1 => code1 b0 b1
  | 2 => code2 b1 b2
  | 3 => code3 b2

theorem code0_lt (b0 : BitVec 8) : (code0 b0).toNat < 64 := by revert b0; decide +kernel
theorem code3_lt (b2 : BitVec 8) : (code3 b2).toNat < 64 := by revert b2; decide +kernel

theorem lt_of_bits (c : BitVec 8) (h6 : c.getLsbD 6 = false) (h7 : c.getLsbD 7 = false) : c.toNat < 64 := by
  revert c; decide +kernel

theorem code1_lt (b0 b1 : BitVec 8) : (code1 b0 b1).toNat < 64 :=
  lt_of_bits _ (by simp [code1]) (by simp [code1])
theorem code2_lt (b1 b2 : BitVec 8) : (code2 b1 b2).toNat < 64 :=
  lt_of_bits _ (by simp [code2]) (by simp [code2])

/-- Every code is below 64. -/
theorem code_lt (f : Fin 4) (b0 b1 b2 : BitVec 8) : (code f b0 b1 b2).toNat < 64 := by
  match f with
  | 0 => exact code0_lt b0
  | 1 => exact code1_lt b0 b1
  | 2 => exact code2_lt b1 b2
  | 3 => exact code3_lt b2

theorem byteOf_getLsbD (W : BitVec 32) (q i : ℕ) (hi : i < 8) : (byteOf W q).getLsbD i = W.getLsbD (8 * q + i) := by
  simp [byteOf, hi]

theorem byteOf_and (W K : BitVec 32) (q : ℕ) : byteOf (W &&& K) q = byteOf W q &&& byteOf K q := by
  apply BitVec.eq_of_getLsbD_eq
  intro i hi
  simp only [byteOf_getLsbD _ _ _ hi, BitVec.getLsbD_and]

theorem byteOf_or (W K : BitVec 32) (q : ℕ) : byteOf (W ||| K) q = byteOf W q ||| byteOf K q := by
  apply BitVec.eq_of_getLsbD_eq
  intro i hi
  simp only [byteOf_getLsbD _ _ _ hi, BitVec.getLsbD_or]

/-- Field 0 of every byte of a word. -/
theorem word0 (W0 : BitVec 32) (q : ℕ) (hq : q < 4) : byteOf (W0 &&& 1061109567#32) q = code0 (byteOf W0 q) := by
  rw [byteOf_and, code0]
  congr 1
  interval_cases q <;> decide

/-- A byte of a word shifted right and masked. -/
theorem shr_mask (W K : BitVec 32) (k : BitVec 8) (n q : ℕ) (hq : q < 4) (hK : byteOf K q = k)
    (hk : ∀ i, i < 8 → 8 ≤ i + n → k.getLsbD i = false) :
    byteOf ((W >>> n) &&& K) q = (byteOf W q >>> n) &&& k := by
  rw [byteOf_and, hK]
  apply BitVec.eq_of_getLsbD_eq
  intro i hi
  simp only [BitVec.getLsbD_and, byteOf_getLsbD _ _ _ hi, BitVec.getLsbD_ushiftRight]
  by_cases h : 8 ≤ i + n
  · simp [hk i hi h]
  · rw [byteOf_getLsbD _ _ _ (by omega)]
    congr 2
    omega

/-- A byte of a word shifted left and masked. -/
theorem shl_mask (W K : BitVec 32) (k : BitVec 8) (n q : ℕ) (hq : q < 4) (hK : byteOf K q = k)
    (hk : ∀ i, i < 8 → i < n → k.getLsbD i = false) :
    byteOf ((W <<< n) &&& K) q = (byteOf W q <<< n) &&& k := by
  rw [byteOf_and, hK]
  apply BitVec.eq_of_getLsbD_eq
  intro i hi
  simp only [BitVec.getLsbD_and, byteOf_getLsbD _ _ _ hi, BitVec.getLsbD_shiftLeft]
  by_cases h : i < n
  · simp [hk i hi h]
  · rw [byteOf_getLsbD _ _ _ (by omega), show 8 * q + (i - n) = 8 * q + i - n by omega]
    simp [h, hi, show 8 * q + i < 32 by omega, show ¬ 8 * q + i < n by omega]

/-- Field 1 of every byte of two words. -/
theorem word1 (W0 W1 : BitVec 32) (q : ℕ) (hq : q < 4) :
    byteOf (((W0 >>> 6) &&& 50529027#32) ||| ((W1 <<< 2) &&& 1010580540#32)) q = code1 (byteOf W0 q) (byteOf W1 q) := by
  rw [byteOf_or, shr_mask W0 50529027#32 3#8 6 q hq (by interval_cases q <;> decide) (by decide),
    shl_mask W1 1010580540#32 60#8 2 q hq (by interval_cases q <;> decide) (by decide), code1]
  congr 1
  generalize byteOf W0 q = b
  revert b; decide +kernel

/-- Field 2 of every byte of two words. -/
theorem word2 (W1 W2 : BitVec 32) (q : ℕ) (hq : q < 4) :
    byteOf (((W1 >>> 4) &&& 252645135#32) ||| ((W2 <<< 4) &&& 808464432#32)) q = code2 (byteOf W1 q) (byteOf W2 q) := by
  rw [byteOf_or, shr_mask W1 252645135#32 15#8 4 q hq (by interval_cases q <;> decide) (by decide),
    shl_mask W2 808464432#32 48#8 4 q hq (by interval_cases q <;> decide) (by decide), code2]
  congr 1
  generalize byteOf W1 q = b
  revert b; decide +kernel

/-- Field 3 of every byte of a word. -/
theorem word3 (W2 : BitVec 32) (q : ℕ) (hq : q < 4) : byteOf ((W2 >>> 2) &&& 1061109567#32) q = code3 (byteOf W2 q) := by
  rw [shr_mask W2 1061109567#32 63#8 2 q hq (by interval_cases q <;> decide) (by decide), code3]
  generalize byteOf W2 q = b
  revert b; decide +kernel

/-- The bits of the 8-bit float the kernel reads a code as. -/
def enc (c : BitVec 8) : BitVec 8 := (c + 96#8) &&& 159#8

/-- The bytes of a sum, when no byte carries. -/
theorem bytes_add (n : ℕ) (hlt : n < 2 ^ 32) (h0 : n / 2 ^ (8 * 0) % 2 ^ 8 < 64) (h1 : n / 2 ^ (8 * 1) % 2 ^ 8 < 64)
    (h2 : n / 2 ^ (8 * 2) % 2 ^ 8 < 64) (h3 : n / 2 ^ (8 * 3) % 2 ^ 8 < 64) (q : ℕ) (hq : q < 4) :
    (n + 1616928864) % 2 ^ 32 / 2 ^ (8 * q) % 2 ^ 8 = (n / 2 ^ (8 * q) % 2 ^ 8 + 96) % 2 ^ 8 := by
  obtain ⟨a0, a1, a2, a3, e, l0, l1, l2, l3⟩ : ∃ a0 a1 a2 a3 : ℕ, n = a0 + 256 * (a1 + 256 * (a2 + 256 * a3)) ∧ a0 < 64 ∧ a1 < 64 ∧ a2 < 64 ∧ a3 < 64 := by
    refine ⟨n % 256, n / 256 % 256, n / 65536 % 256, n / 16777216 % 256, ?_, ?_, ?_, ?_, ?_⟩
    · omega
    · simpa using h0
    · simpa using h1
    · simpa using h2
    · simpa using h3
  subst e
  clear h0 h1 h2 h3
  have hq' : q = 0 ∨ q = 1 ∨ q = 2 ∨ q = 3 := by omega
  rcases hq' with rfl | rfl | rfl | rfl
  all_goals
    simp only [Nat.reduceMul, Nat.reducePow, Nat.reduceMod]
    omega

/-- The bytes of a word as numbers. -/
theorem byteOf_toNat (W : BitVec 32) (q : ℕ) : (byteOf W q).toNat = W.toNat / 2 ^ (8 * q) % 2 ^ 8 := by
  rw [byteOf, BitVec.extractLsb'_toNat, Nat.shiftRight_eq_div_pow]

/-- Every byte of the encoding's mask is 159. -/
theorem byteOf_mask (q : ℕ) (hq : q < 4) : byteOf 2678038431#32 q = 159#8 := by interval_cases q <;> decide

/-- When every byte of a word is a code, adding 96 to every byte carries nothing from one byte to the next. -/
theorem byte_add (C K : BitVec 32) (hK : K.toNat = 1616928864) (k : BitVec 8) (hk : k.toNat = 96)
    (hC : ∀ q, q < 4 → (byteOf C q).toNat < 64) (q : ℕ) (hq : q < 4) :
    byteOf (C + K) q = byteOf C q + k := by
  apply BitVec.eq_of_toNat_eq
  have h0 := hC 0 (by decide); have h1 := hC 1 (by decide); have h2 := hC 2 (by decide); have h3 := hC 3 (by decide)
  have hlt := C.isLt
  rw [byteOf_toNat] at h0 h1 h2 h3
  rw [BitVec.toNat_add, byteOf_toNat, byteOf_toNat, BitVec.toNat_add, hK, hk]
  generalize C.toNat = n at h0 h1 h2 h3 hlt ⊢
  exact bytes_add n hlt h0 h1 h2 h3 q hq

/-- When every byte of a word is a code, adding and masking the word encodes each byte. -/
theorem byte_enc (C : BitVec 32) (hC : ∀ q, q < 4 → (byteOf C q).toNat < 64) (q : ℕ) (hq : q < 4) :
    byteOf ((C + 1616928864#32) &&& 2678038431#32) q = enc (byteOf C q) := by
  rw [byteOf_and, byte_add C _ (by simp) 96#8 (by simp) hC q hq, byteOf_mask q hq, enc]

/-- The 24-bit word of three bytes, as the reference joins them. -/
def join (b0 b1 b2 : BitVec 8) : BitVec 32 :=
  (b0.setWidth 32 ||| (b1.setWidth 32 <<< 8)) ||| (b2.setWidth 32 <<< 16)

/-- Field `f` of the 24-bit word is the code of field `f` of the bytes. -/
theorem field (f : Fin 4) (b0 b1 b2 : BitVec 8) :
    ((join b0 b1 b2) >>> (6 * f.val)) &&& 63#32 = (code f b0 b1 b2).setWidth 32 := by
  have past (x : BitVec 8) (i : Nat) (h : 8 ≤ i) : x.getLsbD i = false := BitVec.getLsbD_of_ge x i h
  apply BitVec.eq_of_getLsbD_eq
  intro i hi
  have hm : (63#32 : BitVec 32).getLsbD i = decide (i < 6) := by interval_cases i <;> rfl
  by_cases h6 : i < 6
  · simp only [BitVec.getLsbD_and, hm, h6, BitVec.getLsbD_setWidth, hi, BitVec.getLsbD_ushiftRight, join, BitVec.getLsbD_or,
      BitVec.getLsbD_shiftLeft]
    match f with
    | 0 => interval_cases i <;> simp [code, code0]
    | 1 => interval_cases i <;> simp [code, code1]
    | 2 => interval_cases i <;> simp [code, code2]
    | 3 => interval_cases i <;> simp [code, code3]
  · have hc : (code f b0 b1 b2).getLsbD i = false := by
      have := code_lt f b0 b1 b2
      rw [BitVec.getLsbD]
      exact Nat.testBit_lt_two_pow (lt_of_lt_of_le this (Nat.pow_le_pow_right (n := 2) (by decide) (not_lt.mp h6)))
    simp [hm, h6, hc]

end Cert.Fp6
-- ==== Proof.Decode.lean ====
/-
  The value of a six-bit code (`decR`), read two ways over the reals: as the 8-bit float whose bits the kernel makes of it
  (`ofBits_enc`: the value divided by 4096) and by the reference's arithmetic (`refDec_code`: the value itself).
-/
module

public import proofs.«01_k».proof.Proof.Bits
public import Idealize.ShloMosaic.PureOps.Ideal.Laws
public import Idealize.ShloMosaic.Lib.IdealHost

@[expose] public section

noncomputable section

namespace Cert.Fp6

open Idealize.ShloMosaic

/-- The value of the six-bit code `n`: a sign bit, three exponent bits, two mantissa bits. -/
def decR (n : ℕ) : ℝ :=
  (1 - 2 * (n / 32 : ℕ)) * (if n / 4 % 8 = 0 then ((n % 4 : ℕ) : ℝ) / 16 else (4 + (n % 4 : ℕ)) * 2 ^ (n / 4 % 8) / 32)

/-- The kernel's float: the code's bits moved into an 8-bit float read as the code's value divided by 4096. -/
theorem ofBits_enc (c : BitVec 8) (hc : c.toNat < 64) :
    (FloatOps.ofBits .fp8e5m2 (enc c) : Ideal .fp8e5m2) = ((decR c.toNat / 4096 : ℝ) : EReal) := by
  obtain ⟨n, hn, rfl⟩ : ∃ n, n < 64 ∧ c = BitVec.ofNat 8 n := ⟨c.toNat, hc, by simp⟩
  show Ideal.ieee 5 2 _ = _
  interval_cases n
  all_goals
    simp [Ideal.ieee, enc, decR, -EReal.coe_mul]
    try norm_num

/-- The reference's arithmetic on a code in a 32-bit word. -/
def refDec (C : BitVec 32) : Ideal .f32 :=
  FloatOps.mulf
    (FloatOps.subf (FloatOps.ofBits .f32 0x3F800000#32)
      (FloatOps.mulf (FloatOps.ofBits .f32 0x40000000#32) (FloatOps.uitofp .f32 (IntOp.shrui .host C 5#32))))
    (Scalar.select (IntOp.cmpi .eq (IntOp.andi (IntOp.shrui .host C 2#32) 7#32) 0#32)
      (FloatOps.mulf (FloatOps.uitofp .f32 (IntOp.andi C 3#32)) (FloatOps.ofBits .f32 0x3D800000#32))
      (FloatOps.mulf (FloatOps.addf (FloatOps.ofBits .f32 0x40800000#32) (FloatOps.uitofp .f32 (IntOp.andi C 3#32)))
        (FloatOps.hostPowf (FloatOps.ofBits .f32 0x40000000#32)
          (FloatOps.sitofp .f32 (IntOp.subi (IntOp.andi (IntOp.shrui .host C 2#32) 7#32) 5#32)))))

theorem sign_word (n : ℕ) (hn : n < 64) : IntOp.shrui .host (BitVec.ofNat 32 n) 5#32 = BitVec.ofNat 32 (n / 32) := by
  interval_cases n <;> rfl

theorem exp_word (n : ℕ) (hn : n < 64) :
    IntOp.andi (IntOp.shrui .host (BitVec.ofNat 32 n) 2#32) 7#32 = BitVec.ofNat 32 (n / 4 % 8) := by
  interval_cases n <;> rfl

theorem mant_word (n : ℕ) (hn : n < 64) : IntOp.andi (BitVec.ofNat 32 n) 3#32 = BitVec.ofNat 32 (n % 4) := by
  interval_cases n <;> rfl

theorem exp_sub (e : ℕ) (he : e < 8) : (IntOp.subi (BitVec.ofNat 32 e) 5#32).toInt = (e : ℤ) - 5 := by
  interval_cases e <;> rfl

theorem exp_zero (e : ℕ) (he : e < 8) : IntOp.cmpi .eq (BitVec.ofNat 32 e) 0#32 = if e = 0 then 1#1 else 0#1 := by
  interval_cases e <;> rfl

theorem toNat_small (k : ℕ) (hk : k < 64) : (BitVec.ofNat 32 k).toNat = k := by
  rw [BitVec.toNat_ofNat]; omega

theorem bits_one : Ideal.ofBits .f32 0x3F800000#32 = ((1 : ℝ) : EReal) := by simp [Ideal.ofBits, Ideal.ieee, -EReal.coe_mul]; norm_num
theorem bits_two : Ideal.ofBits .f32 0x40000000#32 = ((2 : ℝ) : EReal) := by simp [Ideal.ofBits, Ideal.ieee, -EReal.coe_mul]; norm_num
theorem bits_four : Ideal.ofBits .f32 0x40800000#32 = ((4 : ℝ) : EReal) := by simp [Ideal.ofBits, Ideal.ieee, -EReal.coe_mul]; norm_num
theorem bits_sixteenth : Ideal.ofBits .f32 0x3D800000#32 = ((1 / 16 : ℝ) : EReal) := by simp [Ideal.ofBits, Ideal.ieee, -EReal.coe_mul]; norm_num

/-- The host's power of two at a small integer exponent. -/
theorem pow_two (e : ℕ) : Ideal.pow ((2 : ℝ) : EReal) ((((e : ℤ) - 5 : ℤ) : ℝ) : EReal) = ((2 ^ e / 32 : ℝ) : EReal) := by
  show ((Real.rpow 2 (((e : ℤ) - 5 : ℤ) : ℝ) : ℝ) : EReal) = _
  rw [Real.rpow_eq_pow, Real.rpow_intCast, zpow_sub₀ (by norm_num), zpow_natCast]
  norm_num

/-- The reference's arithmetic on a code is the code's value. -/
theorem refDec_code (c : BitVec 8) (hc : c.toNat < 64) : refDec (c.setWidth 32) = ((decR c.toNat : ℝ) : EReal) := by
  have hw : c.setWidth 32 = BitVec.ofNat 32 c.toNat := by
    apply BitVec.eq_of_toNat_eq
    rw [BitVec.toNat_setWidth, BitVec.toNat_ofNat]
  rw [hw]
  generalize c.toNat = n at hc ⊢
  have he : n / 4 % 8 < 8 := Nat.mod_lt _ (by decide)
  unfold refDec
  rw [sign_word n hc, exp_word n hc, mant_word n hc, exp_zero _ he]
  show (Ideal.ofBits .f32 0x3F800000#32 - Ideal.ofBits .f32 0x40000000#32 * (((BitVec.ofNat 32 (n / 32)).toNat : ℝ) : EReal))
    * Scalar.select (if n / 4 % 8 = 0 then 1#1 else 0#1)
        ((((BitVec.ofNat 32 (n % 4)).toNat : ℝ) : EReal) * Ideal.ofBits .f32 0x3D800000#32)
        ((Ideal.ofBits .f32 0x40800000#32 + (((BitVec.ofNat 32 (n % 4)).toNat : ℝ) : EReal))
          * Ideal.pow (Ideal.ofBits .f32 0x40000000#32) (((IntOp.subi (BitVec.ofNat 32 (n / 4 % 8)) 5#32).toInt : ℝ) : EReal)) = _
  rw [exp_sub _ he, toNat_small _ (by omega), toNat_small _ (by omega), bits_one, bits_two, bits_four, bits_sixteenth, pow_two]
  unfold decR
  by_cases h : n / 4 % 8 = 0
  · rw [if_pos h, if_pos h, Scalar.select, if_pos (by decide)]
    simp only [← EReal.coe_mul, ← EReal.coe_sub, ← EReal.coe_add]
    congr 1
    ring
  · rw [if_neg h, if_neg h, Scalar.select, if_neg (by decide)]
    simp only [← EReal.coe_mul, ← EReal.coe_sub, ← EReal.coe_add]
    congr 1
    ring

end Cert.Fp6

end
-- ==== Proof.KBlock.lean ====
/-
  The kernel's body at an index, over the extended reals. A byte of a transposed word is a byte of the packed block
  (`word_byte`); the eight-bit pattern made of it is the float `decR code / 4096` (`decV_apply`); a product of the body is
  the sum over the 2560 expanded columns (`matV_apply`); and a point's body adds the four fields' sums to the accumulator
  (`stepV_apply`).
-/
module

public import proofs.«01_k».proof.Proof.KStep
public import proofs.«01_k».proof.Proof.Decode
public import Idealize.ShloMosaic.Lib.ValueIdxCore
public import Idealize.ShloMosaic.Lib.BitcastFour
public import Idealize.ShloMosaic.Lib.BitcastPair
public import Idealize.ShloMosaic.Lib.MatmulPlain
public import Idealize.ShloMosaic.Lib.Pipeline.ValueKit.Tiles

@[expose] public section

noncomputable section

namespace Cert.KernelIdeal.Block

open Cert.KernelIdeal Cert.KernelIdeal.Gen Cert.KernelIdeal.Step Cert.Fp6
open Idealize.ShloMosaic Idealize.ShloMosaic.TcCoe Idealize.SL.Sem Idealize.ShloMosaic.ValueIdx

/-- The transposed words of a byte plane. -/
abbrev wordV (v : Vec Ideal S1x1024x640 .i8) : IVec S640x256 32 := k0_pay5 v

/-- The element of a plane of the packed block at row `r`, column `j`. -/
abbrev pk (x1 : Vec Ideal S3x1024x640 .i8) (p : Fin 3) (r : Fin 1024) (j : Fin 640) : BitVec 8 := x1 (ix3 p r j)

/-- Byte `q` of the word at column `j`, group `n'` is row `4 n' + q` of the plane. -/
theorem word_byte (v : Vec Ideal S1x1024x640 .i8) (j : Fin 640) (n' : Fin 256) (q : ℕ) (hq : q < 4) :
    byteOf (wordV v (ix2 j n')) q = v (ix3 0 ⟨4 * n'.val + q, by omega⟩ j) := by
  apply BitVec.eq_of_getLsbD_eq
  intro i hi
  rw [byteOf_getLsbD _ _ _ hi]
  have ht : wordV v (ix2 j n')
      = bitcast S256x640 32 (shapeCast S1024x640 v shapeCasts_S1x1024x640_S1024x640) bitcasts_S1024x640_w8_S256x640_w32 (ix2 n' j) := by
    show bitcast S256x640 32 (shapeCast S1024x640 v shapeCasts_S1x1024x640_S1024x640) bitcasts_S1024x640_w8_S256x640_w32 _ = _
    congr 1
    funext a
    match a with
    | ⟨0, _⟩ => rfl
    | ⟨1, _⟩ => rfl
  rw [ht, bitcast_8_32_getLsbD_ix2 (R := 1024) (r := 256) (n := 640) _ bitcasts_S1024x640_w8_S256x640_w32 n' j (8 * q + i) (by omega)
    ⟨4 * n'.val + q, by omega⟩ (by show 4 * n'.val + q = 4 * n'.val + (8 * q + i) / 8; omega)]
  rw [show (8 * q + i) % 8 = i by omega]
  congr 1
  refine shapeCast_apply _ _ _ _ ?_
  rw [Shape.rowMajor_val_two, Shape.rowMajor_val_three]
  show (0 * 1024 + (4 * n'.val + q)) * 640 + j.val = (4 * n'.val + q) * 640 + j.val
  omega

/-- A plane's load reads the block at that plane. -/
theorem w0_apply (x1 : Vec Ideal S3x1024x640 .i8) (r : Fin 1024) (j : Fin 640) : w0V x1 (ix3 0 r j) = pk x1 0 r j :=
  View.ld_unit_apply_of x1 _ _ inb_S3x1024x640_S1x1024x640_0_0_0 (ix3 0 r j) (ix3 0 r j) (fun a => by
    match a with
    | ⟨0, _⟩ => rfl
    | ⟨1, _⟩ => exact (Nat.zero_add _).symm
    | ⟨2, _⟩ => exact (Nat.zero_add _).symm)
theorem w1_apply (x1 : Vec Ideal S3x1024x640 .i8) (r : Fin 1024) (j : Fin 640) : w1V x1 (ix3 0 r j) = pk x1 1 r j :=
  View.ld_unit_apply_of x1 _ _ inb_S3x1024x640_S1x1024x640_1_0_0 (ix3 0 r j) (ix3 1 r j) (fun a => by
    match a with
    | ⟨0, _⟩ => rfl
    | ⟨1, _⟩ => exact (Nat.zero_add _).symm
    | ⟨2, _⟩ => exact (Nat.zero_add _).symm)
theorem w2_apply (x1 : Vec Ideal S3x1024x640 .i8) (r : Fin 1024) (j : Fin 640) : w2V x1 (ix3 0 r j) = pk x1 2 r j :=
  View.ld_unit_apply_of x1 _ _ inb_S3x1024x640_S1x1024x640_2_0_0 (ix3 0 r j) (ix3 2 r j) (fun a => by
    match a with
    | ⟨0, _⟩ => rfl
    | ⟨1, _⟩ => exact (Nat.zero_add _).symm
    | ⟨2, _⟩ => exact (Nat.zero_add _).symm)

theorem a0_apply (x0 : Vec Ideal S4x32x2560 .bf16) (r : Fin 32) (l : Fin 2560) : a0V x0 (ix3 0 r l) = x0 (ix3 0 r l) :=
  View.ld_unit_apply_of x0 _ _ inb_S4x32x2560_S1x32x2560_0_0_0 (ix3 0 r l) (ix3 0 r l) (fun a => by
    match a with
    | ⟨0, _⟩ => rfl
    | ⟨1, _⟩ => exact (Nat.zero_add _).symm
    | ⟨2, _⟩ => exact (Nat.zero_add _).symm)
theorem a1_apply (x0 : Vec Ideal S4x32x2560 .bf16) (r : Fin 32) (l : Fin 2560) : a1V x0 (ix3 0 r l) = x0 (ix3 1 r l) :=
  View.ld_unit_apply_of x0 _ _ inb_S4x32x2560_S1x32x2560_1_0_0 (ix3 0 r l) (ix3 1 r l) (fun a => by
    match a with
    | ⟨0, _⟩ => rfl
    | ⟨1, _⟩ => exact (Nat.zero_add _).symm
    | ⟨2, _⟩ => exact (Nat.zero_add _).symm)
theorem a2_apply (x0 : Vec Ideal S4x32x2560 .bf16) (r : Fin 32) (l : Fin 2560) : a2V x0 (ix3 0 r l) = x0 (ix3 2 r l) :=
  View.ld_unit_apply_of x0 _ _ inb_S4x32x2560_S1x32x2560_2_0_0 (ix3 0 r l) (ix3 2 r l) (fun a => by
    match a with
    | ⟨0, _⟩ => rfl
    | ⟨1, _⟩ => exact (Nat.zero_add _).symm
    | ⟨2, _⟩ => exact (Nat.zero_add _).symm)
theorem a3_apply (x0 : Vec Ideal S4x32x2560 .bf16) (r : Fin 32) (l : Fin 2560) : a3V x0 (ix3 0 r l) = x0 (ix3 3 r l) :=
  View.ld_unit_apply_of x0 _ _ inb_S4x32x2560_S1x32x2560_3_0_0 (ix3 0 r l) (ix3 3 r l) (fun a => by
    match a with
    | ⟨0, _⟩ => rfl
    | ⟨1, _⟩ => exact (Nat.zero_add _).symm
    | ⟨2, _⟩ => exact (Nat.zero_add _).symm)

/-- The code of field `f` at row `r`, column `j` of the packed block. -/
abbrev bcode (x1 : Vec Ideal S3x1024x640 .i8) (f : Fin 4) (r : Fin 1024) (j : Fin 640) : BitVec 8 :=
  code f (pk x1 0 r j) (pk x1 1 r j) (pk x1 2 r j)

/-- The row of the packed block that byte `q` of group `n'` is. -/
abbrev rowOf (n' : Fin 256) (q : ℕ) (hq : q < 4) : Fin 1024 := ⟨4 * n'.val + q, by omega⟩

/-- The words of the four fields before their bytes are made into float patterns. -/
abbrev codes (x1 : Vec Ideal S3x1024x640 .i8) (f : Fin 4) : IVec S640x256 32 :=
  match f with
  | 0 => k0_pay8 (w0V x1)
  | 1 => k0_pay9 (w0V x1) (w1V x1)
  | 2 => ori (k0_pay10 (w1V x1)) (k0_pay11 (w2V x1))
  | 3 => andi (shrui (k0_pay7 (w2V x1)) (broadcast S640x256 2#32)) (broadcast S640x256 1061109567#32)

/-- Byte `q` of a field's word is the field's code in row `4 n' + q`. -/
theorem codes_byte (x1 : Vec Ideal S3x1024x640 .i8) (f : Fin 4) (j : Fin 640) (n' : Fin 256) (q : ℕ) (hq : q < 4) :
    byteOf (codes x1 f (ix2 j n')) q = bcode x1 f (rowOf n' q hq) j := by
  have h0 := (word_byte (w0V x1) j n' q hq).trans (w0_apply x1 (rowOf n' q hq) j)
  have h1 := (word_byte (w1V x1) j n' q hq).trans (w1_apply x1 (rowOf n' q hq) j)
  have h2 := (word_byte (w2V x1) j n' q hq).trans (w2_apply x1 (rowOf n' q hq) j)
  unfold bcode
  rw [← h0, ← h1, ← h2]
  match f with
  | 0 => exact word0 _ q hq
  | 1 => exact word1 _ _ q hq
  | 2 => exact word2 _ _ q hq
  | 3 => exact word3 _ q hq

/-- A field's words as float patterns. -/
abbrev encV (C : IVec S640x256 32) : IVec S640x256 32 :=
  andi (addi C (broadcast S640x256 1616928864#32)) (broadcast S640x256 2678038431#32)

/-- The patterns read as floats, one row per byte. -/
abbrev decV (C : IVec S640x256 32) : FVec Ideal S2560x256 .bf16 :=
  extf .bf16 (bitcastToFloat .fp8e5m2 (bitcast S2560x256 8 (encV C) bitcasts_S640x256_w32_S2560x256_w8)) bitsLt_fp8e5m2_bf16

/-- Row `l` of the bytes of words is byte `l % 4` of word `l / 4`. -/
theorem split_bytes (W : IVec S640x256 32) (l : Fin 2560) (n' : Fin 256) :
    bitcast S2560x256 8 W bitcasts_S640x256_w32_S2560x256_w8 (ix2 l n') = byteOf (W (ix2 ⟨l.val / 4, by omega⟩ n')) (l.val % 4) := by
  apply BitVec.eq_of_getLsbD_eq
  intro i hi
  rw [byteOf_getLsbD _ _ _ hi, bitcast_getLsbD W bitcasts_S640x256_w32_S2560x256_w8 (ix2 l n') i hi (by decide)]
  have hrow : S2560x256.row (ix2 l n') = l.val := rfl
  have e1 : bitcasts_S640x256_w32_S2560x256_w8.srcIdx (ix2 l n') ((S2560x256.row (ix2 l n') * 8 + i) / 32)
      (fun a ha => (Nat.div_lt_iff_lt_mul (by decide)).2 (bitcasts_S640x256_w32_S2560x256_w8.pos_lt _ i hi a ha))
      = ix2 ⟨l.val / 4, by omega⟩ n' := by
    funext a
    match a with
    | ⟨0, _⟩ =>
      refine Fin.ext ((bitcasts_S640x256_w32_S2560x256_w8.srcIdx_row _ _ _ ⟨0, Nat.zero_lt_two⟩ rfl).trans ?_)
      show (l.val * 8 + i) / 32 = l.val / 4
      omega
    | ⟨1, _⟩ => exact Fin.ext (bitcasts_S640x256_w32_S2560x256_w8.srcIdx_other _ _ _ ⟨1, Nat.one_lt_two⟩ (by show ¬ 1 + 2 = 2; omega))
  rw [e1, hrow, show (l.val * 8 + i) % 32 = 8 * (l.val % 4) + i by omega]

/-- Row `l`, group `n'` of a field's floats is the decoded code of row `4 n' + l % 4`, column `l / 4`, over 4096. -/
theorem decV_apply (x1 : Vec Ideal S3x1024x640 .i8) (f : Fin 4) (l : Fin 2560) (n' : Fin 256) :
    decV (codes x1 f) (ix2 l n')
      = ((decR (bcode x1 f (rowOf n' (l.val % 4) (Nat.mod_lt _ (by decide))) ⟨l.val / 4, by omega⟩).toNat / 4096 : ℝ) : EReal) := by
  have hq : l.val % 4 < 4 := Nat.mod_lt _ (by decide)
  have hb := codes_byte x1 f ⟨l.val / 4, by omega⟩ n' (l.val % 4) hq
  rw [← ofBits_enc _ (code_lt _ _ _ _)]
  show (FloatOps.ofBits .fp8e5m2 (bitcast S2560x256 8 (encV (codes x1 f)) bitcasts_S640x256_w32_S2560x256_w8 (ix2 l n')) : Ideal .fp8e5m2) = _
  rw [split_bytes]
  congr 1
  exact (byte_enc _ (fun q hq => by rw [codes_byte x1 f _ n' q hq]; exact code_lt _ _ _ _) _ hq).trans (congrArg enc hb)

/-- One product of the body. -/
abbrev matV (a : Vec Ideal S1x32x2560 .bf16) (C : IVec S640x256 32) : FVec Ideal S32x256 .f32 :=
  matmul (φ₁ := .bf16) dot_S32x2560_S2560x256_S32x256_1_0_0_1_n_n none (shapeCast S32x2560 a shapeCasts_S1x32x2560_S32x2560) (decV C)
    (constant S32x256 .f32 0x00000000#32)

theorem bits_zero : Ideal.ofBits .f32 0x00000000#32 = (0 : EReal) := by simp [Ideal.ofBits, Ideal.ieee]

/-- A product at an index is the sum over the expanded columns. -/
theorem matV_apply (a : Vec Ideal S1x32x2560 .bf16) (C : IVec S640x256 32) (r : Fin 32) (n' : Fin 256) :
    matV a C (ix2 r n') = ∑ l : Fin 2560, (a (ix3 0 r l) : EReal) * decV C (ix2 l n') := by
  refine (Ideal.matmul_plain_apply (M := 32) (K := 2560) (N := 256) none
    (shapeCast S32x2560 a shapeCasts_S1x32x2560_S32x2560) (decV C) (constant S32x256 .f32 0x00000000#32) r n').trans ?_
  have hc : (constant (F := Ideal) S32x256 .f32 0x00000000#32) (ix2 r n') = (0 : EReal) := bits_zero
  rw [hc, zero_add]
  refine Finset.sum_congr rfl fun l _ => ?_
  congr 1
  refine shapeCast_apply _ _ _ _ ?_
  rw [Shape.rowMajor_val_two, Shape.rowMajor_val_three]
  show (0 * 32 + r.val) * 2560 + l.val = r.val * 2560 + l.val
  omega

/-- Field `f`'s product at a point's blocks. -/
def part (x0 : Vec Ideal S4x32x2560 .bf16) (x1 : Vec Ideal S3x1024x640 .i8) (f : Fin 4) (r : Fin 32) (n' : Fin 256) : EReal :=
  ∑ l : Fin 2560, (x0 (ix3 f r l) : EReal)
    * ((decR (bcode x1 f (rowOf n' (l.val % 4) (Nat.mod_lt _ (by decide))) ⟨l.val / 4, by omega⟩).toNat / 4096 : ℝ) : EReal)

/-- A product of the body is its field's sum. -/
theorem matV_part (x0 : Vec Ideal S4x32x2560 .bf16) (x1 : Vec Ideal S3x1024x640 .i8) (f : Fin 4) (a : Vec Ideal S1x32x2560 .bf16)
    (r : Fin 32) (n' : Fin 256) (ha : ∀ l : Fin 2560, a (ix3 0 r l) = x0 (ix3 f r l)) :
    matV a (codes x1 f) (ix2 r n') = part x0 x1 f r n' := by
  rw [matV_apply]
  unfold part
  exact Finset.sum_congr rfl fun l _ => congrArg₂ (· * ·) (ha l) (decV_apply x1 f l n')

/-- A point's body adds the four fields' products to the accumulator. -/
theorem stepV_apply (x0 : Vec Ideal S4x32x2560 .bf16) (x1 : Vec Ideal S3x1024x640 .i8) (acc : Vec Ideal S32x256 .f32) (r : Fin 32)
    (n' : Fin 256) :
    stepV x0 x1 acc (ix2 r n')
      = (acc (ix2 r n') : EReal) + part x0 x1 0 r n' + part x0 x1 1 r n' + part x0 x1 2 r n' + part x0 x1 3 r n' := by
  have h : stepV x0 x1 acc (ix2 r n')
      = (acc (ix2 r n') : EReal) + matV (a0V x0) (codes x1 0) (ix2 r n') + matV (a1V x0) (codes x1 1) (ix2 r n')
        + matV (a2V x0) (codes x1 2) (ix2 r n') + matV (a3V x0) (codes x1 3) (ix2 r n') := rfl
  rw [h, matV_part x0 x1 0 _ r n' (a0_apply x0 r), matV_part x0 x1 1 _ r n' (a1_apply x0 r), matV_part x0 x1 2 _ r n' (a2_apply x0 r),
    matV_part x0 x1 3 _ r n' (a3_apply x0 r)]

end Cert.KernelIdeal.Block

end
-- ==== Proof.KSum.lean ====
/-
  The kernel's accumulator after the seven points of a column of the grid, at an index: the sum over the points of the
  four fields' products (`scr_sum`).
-/
module

public import proofs.«01_k».proof.Proof.KBlock

@[expose] public section

noncomputable section

namespace Cert.KernelIdeal.Block

open Cert.KernelIdeal Cert.KernelIdeal.Gen Cert.KernelIdeal.Step Cert.Fp6
open Idealize.ShloMosaic Idealize.ShloMosaic.TcCoe Idealize.SL.Sem Idealize.ShloMosaic.ValueIdx

variable (m : (ℓ : Loc nD τ sig) → Buf (Elt Ideal) ℓ) (c : Dev nD)

/-- Field `f`'s product at point `n`; zero past the grid's end. -/
def ptPart (n : ℕ) (f : Fin 4) (r : Fin 32) (n' : Fin 256) : EReal :=
  if h : n < cfg0.N then part (iblk m c 0 ⟨n, h⟩) (iblk m c 1 ⟨n, h⟩) f r n' else 0

/-- The sum of the four fields at point `n`. -/
def ptSum (n : ℕ) (r : Fin 32) (n' : Fin 256) : EReal := ∑ f : Fin 4, ptPart m c n f r n'

/-- A point's body adds `ptSum`. -/
theorem step_pt (n : ℕ) (h : n < cfg0.N) (acc : Vec Ideal S32x256 .f32) (r : Fin 32) (n' : Fin 256) :
    stepV (iblk m c 0 ⟨n, h⟩) (iblk m c 1 ⟨n, h⟩) acc (ix2 r n') = (acc (ix2 r n') : EReal) + ptSum m c n r n' := by
  rw [stepV_apply]
  unfold ptSum ptPart
  rw [Fin.sum_univ_four]
  simp only [dif_pos h, add_assoc]

/-- The zero block is zero. -/
theorem zero_apply (y : S32x256.Idx) : (zeroV (F := Ideal) y : EReal) = 0 := bits_zero

/-- The accumulator `k` points into column `g` of the grid. -/
theorem scr_sum (g r n') : ∀ (k : ℕ) (hk : k < 7) (h : 7 * g + k < cfg0.N),
    (scr m c (7 * g + k) h (ix2 r n') : EReal) = ∑ k' ∈ Finset.range (k + 1), ptSum m c (7 * g + k') r n'
  | 0, _, h => by
    rw [Finset.sum_range_one]
    cases g with
    | zero => exact (step_pt m c 0 h zeroV r n').trans (by rw [zero_apply, zero_add])
    | succ g =>
      have e : scr m c (7 * g + 6 + 1) h = stepV (iblk m c 0 ⟨7 * g + 6 + 1, h⟩) (iblk m c 1 ⟨7 * g + 6 + 1, h⟩) zeroV := by
        rw [scr, if_pos (by omega)]
      show (scr m c (7 * g + 6 + 1) h (ix2 r n') : EReal) = ptSum m c (7 * g + 6 + 1) r n'
      rw [e, step_pt, zero_apply, zero_add]
  | k + 1, hk, h => by
    have e : scr m c (7 * g + k + 1) h
        = stepV (iblk m c 0 ⟨7 * g + k + 1, h⟩) (iblk m c 1 ⟨7 * g + k + 1, h⟩) (scr m c (7 * g + k) (Nat.lt_of_succ_lt h)) := by
      rw [scr, if_neg (by omega)]
    rw [Finset.sum_range_succ, ← scr_sum g r n' k (by omega) (Nat.lt_of_succ_lt h)]
    show (scr m c (7 * g + k + 1) h (ix2 r n') : EReal) = _
    rw [e, step_pt]
    rfl

end Cert.KernelIdeal.Block

end
-- ==== Proof.KHost.lean ====
/-
  What the host makes of the arguments before the kernel is launched: the packed bytes with the byte position first, the
  activations spread over the four rows of each group (`xkV`), and the scales repeated over the batch (`scV`); each read at
  an index (`pk_apply`, `xk_apply`, `sc_apply`).
-/
module

public import proofs.«01_k».proof.Proof.KStep
public import Idealize.ShloMosaic.Lib.ValueIdxCore
public import Idealize.ShloMosaic.PureOps.Ideal

@[expose] public section

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-- The packed bytes, byte position first. -/
def pkV (x1 : Vec F S5120x4480x3 .i8) : Vec F S3x5120x4480 .i8 :=
  transpose S3x5120x4480 [2, 0, 1] x1 transposes_S5120x4480x3_S3x5120x4480_2_0_1

/-- The 4 by 4 identity, as floats. -/
abbrev eyeV : Vec F S4x4 .bf16 :=
  uitofp (F := F) .bf16 (cmpi .eq (addi (iotaInDim S4x4 32 0) (broadcastInDim S4x4 ![] bcast_S_S4x4 (constantI S_ 32 0#32)))
    (iotaInDim S4x4 32 1))

/-- The 4 by 4 identity, as truth values. -/
def maskV : Vec F S1x4x1x1x4 .i1 :=
  cmpf .ogt (broadcastInDim S1x4x1x1x4 ![1, 4] bcast_S4x4_S1x4x1x1x4_1_4 (eyeV (F := F)))
    (broadcastInDim S1x4x1x1x4 ![] bcast_S_S1x4x1x1x4 (constant S_ .bf16 0x0000#16))

/-- The activations by field, spread over the four rows of a group. -/
def xkV (x0 : Vec F S8x1x17920 .bf16) : Vec F S4x32x17920 .bf16 :=
  shapeCast S4x32x17920
    (select (broadcastInDim S4x4x8x4480x4 ![0, 1, 2, 3, 4] bcast_S1x4x1x1x4_S4x4x8x4480x4_0_1_2_3_4 (maskV (F := F)))
      (broadcastInDim S4x4x8x4480x4 ![0, 1, 2, 3, 4] bcast_S4x1x8x4480x1_S4x4x8x4480x4_0_1_2_3_4
        (broadcastInDim S4x1x8x4480x1 ![0, 2, 3] bcast_S4x8x4480_S4x1x8x4480x1_0_2_3
          (transpose S4x8x4480 [2, 0, 1] (shapeCast S8x4480x4 x0 shapeCasts_S8x1x17920_S8x4480x4) transposes_S8x4480x4_S4x8x4480_2_0_1)))
      (broadcastInDim S4x4x8x4480x4 ![] bcast_S_S4x4x8x4480x4 (sitofp (F := F) .bf16 (constantI S_ 32 0#32))))
    shapeCasts_S4x4x8x4480x4_S4x32x17920

/-- The scales by row of a group, repeated over the batch. -/
def scV (x2 : Vec F S5120 .f32) : Vec F S32x1280 .f32 :=
  shapeCast S32x1280 (broadcastInDim S4x8x1280 ![0, 2] bcast_S4x1280_S4x8x1280_0_2
    (transpose S4x1280 [1, 0] (shapeCast S1280x4 x2 shapeCasts_S5120_S1280x4) transposes_S1280x4_S4x1280_1_0))
    shapeCasts_S4x8x1280_S32x1280

set_option maxRecDepth 8192 in
theorem V_pk (c : Dev nD) : V m c main_v0 = pkV (m ((c : Thread nD τ).loc main_arg1)) := by
  unfold_abbrev_sides
  simp only [List.flatten_cons, List.flatten_nil, List.append_nil, List.cons_append, List.nil_append, TRef.unary, TRef.ternary, TRef.toBuf, TRef.ofBuf, cast_eq]
  after_results
  rfl

set_option maxRecDepth 8192 in
theorem V_xk (c : Dev nD) : V m c main_v14 = xkV (m ((c : Thread nD τ).loc main_arg0)) := by
  unfold_abbrev_sides
  simp only [List.flatten_cons, List.flatten_nil, List.append_nil, List.cons_append, List.nil_append, TRef.unary, TRef.ternary, TRef.toBuf, TRef.ofBuf, cast_eq]
  after_results
  rfl

set_option maxRecDepth 8192 in
theorem V_sc (c : Dev nD) : V m c main_v18 = scV (m ((c : Thread nD τ).loc main_arg2)) := by
  unfold_abbrev_sides
  simp only [List.flatten_cons, List.flatten_nil, List.append_nil, List.cons_append, List.nil_append, TRef.unary, TRef.ternary, TRef.toBuf, TRef.ofBuf, cast_eq]
  after_results
  rfl

/-- The packed bytes at an index. -/
theorem pk_apply (x1 : Vec F S5120x4480x3 .i8) (p : Fin 3) (n : Fin 5120) (J : Fin 4480) : pkV x1 (ix3 p n J) = x1 (ix3 n J p) := by
  unfold pkV transpose
  congr 1
  funext a
  match a with
  | ⟨0, _⟩ => rfl
  | ⟨1, _⟩ => rfl
  | ⟨2, _⟩ => rfl

/-- The scales at an index. -/
theorem sc_apply (x2 : Vec F S5120 .f32) (i : Fin 4) (b : Fin 8) (n' : Fin 1280) :
    scV x2 (ix2 ⟨8 * i.val + b.val, by omega⟩ n') = x2 (ix1 ⟨4 * n'.val + i.val, by omega⟩) := by
  unfold scV
  rw [shapeCast_apply _ shapeCasts_S4x8x1280_S32x1280 _ (ix3 i b n') (by
    rw [Shape.rowMajor_val_two, Shape.rowMajor_val_three]
    show (i.val * 8 + b.val) * 1280 + n'.val = (8 * i.val + b.val) * 1280 + n'.val
    omega)]
  rw [broadcastInDim_apply ![0, 2] bcast_S4x1280_S4x8x1280_0_2 _ _ (ix2 i n') (fun a => by
    match a with
    | ⟨0, _⟩ => rfl
    | ⟨1, _⟩ => rfl)]
  unfold transpose
  refine shapeCast_apply _ _ _ _ ?_
  rw [Shape.rowMajor_val_two, Shape.rowMajor_val_one]
  show 4 * n'.val + i.val = n'.val * 4 + i.val
  omega

/-- The identity's words: equal coordinates and no others. -/
theorem eye_word : ∀ i q : Fin 4, IntOp.cmpi .eq (IntOp.addi (BitVec.ofNat 32 i.val) 0#32) (BitVec.ofNat 32 q.val) = if i = q then 1#1 else 0#1 := by
  decide

/-- The identity at an index. -/
theorem mask_apply (i q : Fin 4) : maskV (F := Ideal) (ix5 0 i 0 0 q) = if i = q then 1#1 else 0#1 := by
  have h : maskV (F := Ideal) (ix5 0 i 0 0 q)
      = FloatOps.cmpf (F := Ideal) (φ := .bf16) .ogt (FloatOps.uitofp .bf16 (IntOp.cmpi .eq (IntOp.addi (BitVec.ofNat 32 i.val) 0#32) (BitVec.ofNat 32 q.val)))
        (FloatOps.ofBits .bf16 0x0000#16) := by
    unfold maskV
    show FloatOps.cmpf (F := Ideal) (φ := .bf16) .ogt (broadcastInDim S1x4x1x1x4 ![1, 4] bcast_S4x4_S1x4x1x1x4_1_4 (eyeV (F := Ideal)) (ix5 0 i 0 0 q)) _ = _
    rw [broadcastInDim_apply ![1, 4] bcast_S4x4_S1x4x1x1x4_1_4 _ _ (ix2 i q) (fun a => by
      match a with
      | ⟨0, _⟩ => rfl
      | ⟨1, _⟩ => rfl)]
    rfl
  rw [h, eye_word]
  by_cases e : i = q
  · simp [e, FloatOps.cmpf, FloatOps.uitofp, FloatOps.ofBits, Ideal.ofBits, Ideal.ieee, Ideal.cmp]
  · simp [e, FloatOps.cmpf, FloatOps.uitofp, FloatOps.ofBits, Ideal.ofBits, Ideal.ieee, Ideal.cmp]

/-- The spread activations at an index: the activation where the row of the group is the column's, zero elsewhere. -/
theorem xk_apply (x0 : Vec Ideal S8x1x17920 .bf16) (f i q : Fin 4) (b : Fin 8) (J : Fin 4480) :
    xkV x0 (ix3 f ⟨8 * i.val + b.val, by omega⟩ ⟨4 * J.val + q.val, by omega⟩)
      = if i = q then (x0 (ix3 b 0 ⟨4 * J.val + f.val, by omega⟩) : EReal) else (0 : EReal) := by
  unfold xkV
  rw [shapeCast_apply _ shapeCasts_S4x4x8x4480x4_S4x32x17920 _ (ix5 f i b J q) (by
    rw [Shape.rowMajor_val_five, Shape.rowMajor_val_three]
    show (((f.val * 4 + i.val) * 8 + b.val) * 4480 + J.val) * 4 + q.val = (f.val * 32 + (8 * i.val + b.val)) * 17920 + (4 * J.val + q.val)
    omega)]
  show (if (broadcastInDim S4x4x8x4480x4 ![0, 1, 2, 3, 4] bcast_S1x4x1x1x4_S4x4x8x4480x4_0_1_2_3_4 (maskV (F := Ideal)) (ix5 f i b J q)) = 1#1 then _ else _) = _
  rw [broadcastInDim_apply ![0, 1, 2, 3, 4] bcast_S1x4x1x1x4_S4x4x8x4480x4_0_1_2_3_4 _ _ (ix5 0 i 0 0 q) (fun a => by
    match a with
    | ⟨0, _⟩ => rfl
    | ⟨1, _⟩ => rfl
    | ⟨2, _⟩ => rfl
    | ⟨3, _⟩ => rfl
    | ⟨4, _⟩ => rfl), mask_apply]
  by_cases e : i = q
  · rw [if_pos e, if_pos rfl, if_pos e]
    rw [broadcastInDim_apply ![0, 1, 2, 3, 4] bcast_S4x1x8x4480x1_S4x4x8x4480x4_0_1_2_3_4 _ _ (ix5 f 0 b J 0) (fun a => by
      match a with
      | ⟨0, _⟩ => rfl
      | ⟨1, _⟩ => rfl
      | ⟨2, _⟩ => rfl
      | ⟨3, _⟩ => rfl
      | ⟨4, _⟩ => rfl)]
    rw [broadcastInDim_apply ![0, 2, 3] bcast_S4x8x4480_S4x1x8x4480x1_0_2_3 _ _ (ix3 f b J) (fun a => by
      match a with
      | ⟨0, _⟩ => rfl
      | ⟨1, _⟩ => rfl
      | ⟨2, _⟩ => rfl)]
    unfold transpose
    refine shapeCast_apply _ _ _ _ ?_
    rw [Shape.rowMajor_val_three, Shape.rowMajor_val_three]
    show (b.val * 1 + 0) * 17920 + (4 * J.val + f.val) = (b.val * 4480 + J.val) * 4 + f.val
    omega
  · rw [if_neg e, if_neg (by decide), if_neg e]
    show ((((0#32 : BitVec 32).toInt : ℤ) : ℝ) : EReal) = 0
    simp

end Cert.KernelIdeal.Host

end
-- ==== Proof.KWindow.lean ====
/-
  The blocks the kernel reads at a grid point, at an index, in terms of the arguments: point `t` reads the expanded
  columns of column block `t % 7` and the rows of row block `t / 7`.
-/
module

public import proofs.«01_k».proof.Proof.KHost
public import proofs.«01_k».proof.Proof.KBlock

@[expose] public section

noncomputable section

namespace Cert.KernelIdeal.Window

open Cert.KernelIdeal Cert.KernelIdeal.Gen Cert.KernelIdeal.Host
open Idealize.ShloMosaic Idealize.ShloMosaic.TcCoe Idealize.SL.Sem Idealize.ShloMosaic.ValueIdx

variable (m : (ℓ : Loc nD τ sig) → Buf (Elt Ideal) ℓ) (c : Dev nD)

/-- The block indices of the three inputs at a point. -/
theorem idx_x : ∀ t : Fin cfg0.N, win0_0.index t (0 : Fin 3) = 0 ∧ win0_0.index t (1 : Fin 3) = 0 ∧ win0_0.index t (2 : Fin 3) = t.val % 7 :=
  (by decide +kernel : ∀ t : Fin grid0.N, _)
theorem idx_w : ∀ t : Fin cfg0.N, win0_1.index t (0 : Fin 3) = 0 ∧ win0_1.index t (1 : Fin 3) = t.val / 7 ∧ win0_1.index t (2 : Fin 3) = t.val % 7 :=
  (by decide +kernel : ∀ t : Fin grid0.N, _)
theorem idx_s : ∀ t : Fin cfg0.N, win0_2.index t (0 : Fin 2) = 0 ∧ win0_2.index t (1 : Fin 2) = t.val / 7 :=
  (by decide +kernel : ∀ t : Fin grid0.N, _)

theorem lt_points (t : Fin cfg0.N) : t.val < 35 := lt_of_lt_of_eq t.isLt N_0

/-- The spread activations' block. -/
theorem x_block (t : Fin cfg0.N) (f : Fin 4) (r : Fin 32) (l : Fin 2560) (p : Fin 17920) (hp : p.val = 2560 * (t.val % 7) + l.val) :
    (iblk m c 0 t : Vec Ideal S4x32x2560 .bf16) (ix3 f r l) = xkV (m ((c : Thread nD τ).loc main_arg0)) (ix3 f r p) := by
  obtain ⟨e0, e1, e2⟩ := idx_x t
  rw [← V_xk m c]
  unfold iblk
  rw [View.read_apply]
  show V m c main_v14 _ = V m c main_v14 _
  congr 1
  funext a
  apply Fin.ext
  match a with
  | ⟨0, _⟩ => show win0_0.index t (0 : Fin 3) * 4 + 1 * f.val = f.val; omega
  | ⟨1, _⟩ => show win0_0.index t (1 : Fin 3) * 32 + 1 * r.val = r.val; omega
  | ⟨2, _⟩ => show win0_0.index t (2 : Fin 3) * 2560 + 1 * l.val = p.val; omega

/-- The packed bytes' block. -/
theorem w_block (t : Fin cfg0.N) (p : Fin 3) (r : Fin 1024) (j : Fin 640) (n : Fin 5120) (hn : n.val = 1024 * (t.val / 7) + r.val)
    (J : Fin 4480) (hJ : J.val = 640 * (t.val % 7) + j.val) :
    (iblk m c 1 t : Vec Ideal S3x1024x640 .i8) (ix3 p r j) = m ((c : Thread nD τ).loc main_arg1) (ix3 n J p) := by
  obtain ⟨e0, e1, e2⟩ := idx_w t
  rw [← pk_apply (F := Ideal) (m ((c : Thread nD τ).loc main_arg1)), ← V_pk m c]
  unfold iblk
  rw [View.read_apply]
  show V m c main_v0 _ = V m c main_v0 _
  congr 1
  funext a
  apply Fin.ext
  match a with
  | ⟨0, _⟩ => show win0_1.index t (0 : Fin 3) * 3 + 1 * p.val = p.val; omega
  | ⟨1, _⟩ => show win0_1.index t (1 : Fin 3) * 1024 + 1 * r.val = n.val; omega
  | ⟨2, _⟩ => show win0_1.index t (2 : Fin 3) * 640 + 1 * j.val = J.val; omega

/-- The scales' block. -/
theorem s_block (t : Fin cfg0.N) (r : Fin 32) (n' : Fin 256) (N : Fin 1280) (hN : N.val = 256 * (t.val / 7) + n'.val) :
    (iblk m c 2 t : Vec Ideal S32x256 .f32) (ix2 r n') = scV (m ((c : Thread nD τ).loc main_arg2)) (ix2 r N) := by
  obtain ⟨e0, e1⟩ := idx_s t
  rw [← V_sc m c]
  unfold iblk
  rw [View.read_apply]
  show V m c main_v18 _ = V m c main_v18 _
  congr 1
  funext a
  apply Fin.ext
  match a with
  | ⟨0, _⟩ => show win0_2.index t (0 : Fin 2) * 32 + 1 * r.val = r.val; omega
  | ⟨1, _⟩ => show win0_2.index t (1 : Fin 2) * 256 + 1 * n'.val = N.val; omega

end Cert.KernelIdeal.Window

end
-- ==== Proof.KArray.lean ====
/-
  What the kernel program leaves in its buffers: the packed output array block by block (`outG`, `final_out`), and the
  result of the program as the lines after the region read it off that array (`run`).
-/
module

public import proofs.«01_k».proof.Proof.KStep
public import Idealize.ShloMosaic.Lib.StableHlo.Run
public import Idealize.ShloMosaic.Lib.ValueIdxCore

@[expose] public section

noncomputable section

namespace Cert.KernelIdeal.Step

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The place of index `i` of the packed output in its block of 256 columns. -/
abbrev locOf (i : S32x1280.Idx) : S32x256.Idx := ValueIdx.ix2 (i 0) ⟨(i 1).val % 256, Nat.mod_lt _ (by decide)⟩

/-- The last point of the grid's column that holds index `i`. -/
abbrev ptOf (i : S32x1280.Idx) : Fin cfg0.N :=
  ⟨7 * ((i 1).val / 256) + 6, lt_of_lt_of_eq (by have h : (i 1).val < 1280 := (i 1).isLt; omega) N_0.symm⟩

/-- The packed output array after the run: at each index the block its column's last point writes out. -/
def outG (c : Dev nD) : Buf (Elt F) ((c : Thread nD τ).loc main_v19) := fun i =>
  finV (scr m c (ptOf i).val (ptOf i).isLt) (iblk m c 2 (ptOf i)) (locOf i)

/-- Equal points write equal blocks. -/
theorem fin_congr (c : Dev nD) (t t' : Fin cfg0.N) (h : t.val = t'.val) :
    finV (scr m c t.val t.isLt) (iblk m c 2 t) = finV (scr m c t'.val t'.isLt) (iblk m c 2 t') := by
  obtain rfl : t = t' := Fin.ext h
  rfl

/-- The output's block index at a point: row block 0, column block `t / 7`. -/
theorem idx_out : ∀ t : Fin cfg0.N, win0_3.index t (0 : Fin 2) = 0 ∧ win0_3.index t (1 : Fin 2) = t.val / 7 :=
  (by decide +kernel : ∀ t : Fin grid0.N, _)

/-- What a flushing point writes back is its block of `outG`. -/
theorem flushed_out (c : Dev nD) (t : Fin cfg0.N) (hf : (cfg0.win 3).flush t = true) :
    (dats m 0 c).flushed 3 t = ((cfg0.win 3).blk t).view.read (Elt F) (outG m c) := by
  show (cfg0.win 3).cut (grid0.coords t) ((dats m 0 c).after 3 t) = _
  have hm : t.val % 7 = 6 := (flush0_3 t).mp hf
  rw [after0_3, outsAt_out m c t hm]
  obtain ⟨e0, e1⟩ := idx_out t
  funext y
  have hy0 : (y 0).val < 32 := (y 0).isLt
  have hy1 : (y 1).val < 256 := (y 1).isLt
  have hb0 : (((cfg0.win 3).blk t).view.emb y 0).val = win0_3.index t (0 : Fin 2) * 32 + 1 * (y 0).val := rfl
  have hb1 : (((cfg0.win 3).blk t).view.emb y 1).val = win0_3.index t (1 : Fin 2) * 256 + 1 * (y 1).val := rfl
  have hl : locOf (((cfg0.win 3).blk t).view.emb y) = (cfg0.win 3).xinj (grid0.coords t) y := by
    funext a; apply Fin.ext
    match a with
    | ⟨0, _⟩ => show (((cfg0.win 3).blk t).view.emb y 0).val = (y 0).val; rw [hb0]; omega
    | ⟨1, _⟩ => show (((cfg0.win 3).blk t).view.emb y 1).val % 256 = (y 1).val; rw [hb1]; omega
  have hp : (ptOf (((cfg0.win 3).blk t).view.emb y)).val = t.val := by
    show 7 * ((((cfg0.win 3).blk t).view.emb y 1).val / 256) + 6 = _
    rw [hb1]; omega
  show finV (scr m c t.val t.isLt) (iblk m c 2 t) ((cfg0.win 3).xinj (grid0.coords t) y) = outG m c (((cfg0.win 3).blk t).view.emb y)
  unfold outG
  rw [hl, fin_congr m c _ t hp]

/-- An index is in point `t`'s block when each coordinate is in the block's range. -/
theorem mem_out (t : Fin cfg0.N) (i : S32x1280.Idx) :
    i ∈ ((cfg0.win 3).blk t).view.set ↔ ∀ a : Fin 2, win0_3.index t a * S32x256.size a ≤ (i a).val ∧ (i a).val < win0_3.index t a * S32x256.size a + S32x256.size a := by
  show i ∈ ((View.whole main_v19).slice (win0_3.rect t)).set ↔ _
  rw [View.set_slice_whole, Rect.mem_set_unit]
  exact Iff.rfl

/-- The packed output array after the run is `outG`: the flushing points' blocks cover it. -/
theorem final_out (c : Dev nD) : (dats m 0 c).arrAt 3 cfg0.N = outG m c :=
  (dats m 0 c).arrAt_eq_of_cover 3 _ (fun t hf => flushed_out m c t hf) (fun i => by
    have h0 : (i 0).val < 32 := (i 0).isLt
    have h1 : (i 1).val < 1280 := (i 1).isLt
    refine ⟨ptOf i, (flush0_3 _).mpr (by dsimp only; omega), ?_⟩
    obtain ⟨e0, e1⟩ := idx_out (ptOf i)
    dsimp only at e1
    rw [mem_out]
    intro a
    match a with
    | ⟨0, _⟩ => show win0_3.index (ptOf i) (0 : Fin 2) * 32 ≤ (i 0).val ∧ (i 0).val < win0_3.index (ptOf i) (0 : Fin 2) * 32 + 32; omega
    | ⟨1, _⟩ => show win0_3.index (ptOf i) (1 : Fin 2) * 256 ≤ (i 1).val ∧ (i 1).val < win0_3.index (ptOf i) (1 : Fin 2) * 256 + 256; omega)

/-- The program's result read off the packed output: rows `8·i + b`, column `n'` to batch `b`, column `4·n' + i`. -/
def resV (G : Vec F S32x1280 .bf16) : Vec F S8x1x5120 .bf16 :=
  shapeCast S8x1x5120 (transpose S8x1280x4 [1, 2, 0] (shapeCast S4x8x1280 G shapeCasts_S32x1280_S4x8x1280)
    transposes_S4x8x1280_S8x1280x4_1_2_0) shapeCasts_S8x1280x4_S8x1x5120

/-- The lines after the region leave the result buffer at `resV` of the packed output. -/
theorem tail_res (c : Dev nD) :
    Pipeline.afterTail₀ cfgs (dats m) 0 (V0 m) [hostOps1] c main_v22 = resV (outG m c) := by
  unfold Pipeline.afterTail₀
  rw [show List.flatten [hostOps1 (F := F)] = hostOps1 from by simp only [List.flatten_cons, List.flatten_nil, List.append_nil]]
  have e : Pipeline.withArrays (cfgs 0).spec c (V0 m c) (fun w => (dats m 0 c).arrAt w (cfgs 0).N) (Proc.devRef .tc main_v19) = outG m c :=
    (Pipeline.withArrays_arr (cfgs 0).spec (by decide) c (V0 m c) _ 3).trans (final_out m c)
  generalize Pipeline.withArrays (cfgs 0).spec c (V0 m c) (fun w => (dats m 0 c).arrAt w (cfgs 0).N) = W at e ⊢
  unfold hostOps1 resV
  rw [← e]
  after_results
  rfl

/-- Every run of the kernel program ends with the result buffer at `resV` of the packed output, arguments unchanged. -/
theorem run : θ_run defs (onTc (τ := τ) (main (F := F))) ⟨m, fun _ => 0, ρ⟩ fun r => ∀ c : Dev nD,
      r.2.mem ((c : Thread nD τ).loc main_v22) = resV (outG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v22 (Pipeline.mem_restRefs_of main_v22 (by decide) (by decide))).trans (tail_res m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Step

end
-- ==== Proof.RWeight.lean ====
/-
  The reference's weights: at row `n`, word `J` and field `f` the decoded value of the six-bit code of field `f` of the
  three bytes of word `(n, J)` (`decoded0` … `decoded3`).
-/
module

public import proofs.«01_k».proof.Proof.Decode
public import proofs.«01_k».proof.Proof.Gen.ReferenceIdeal.Read

@[expose] public section

noncomputable section

namespace Cert.ReferenceIdeal.Res

open Cert.ReferenceIdeal Cert.ReferenceIdeal.Gen Cert.ReferenceIdeal.Read Cert.Fp6
open Idealize.ShloMosaic Idealize.ShloMosaic.TcCoe Idealize.SL.Sem Idealize.ShloMosaic.StableHlo

/-- Byte `p` of the word at row `n`, column `J`. -/
abbrev at3 (n : Fin 5120) (J : Fin 4480) (p : Fin 3) : S5120x4480x3.Idx := fun a => match a with
  | ⟨0, _⟩ => n
  | ⟨1, _⟩ => J
  | ⟨2, _⟩ => p

/-- The code of field `f` of the word at row `n`, column `J`. -/
abbrev codeAt (x1 : S5120x4480x3.Idx → BitVec 8) (f : Fin 4) (n : Fin 5120) (J : Fin 4480) : BitVec 8 :=
  code f (x1 (at3 n J 0)) (x1 (at3 n J 1)) (x1 (at3 n J 2))

/-- The weight of field `f` of the word at row `n`, column `J`. -/
def wt (x1 : S5120x4480x3.Idx → BitVec 8) (f : Fin 4) (n : Fin 5120) (J : Fin 4480) : ℝ := decR (codeAt x1 f n J).toNat

variable (x1 : (⟨S5120x4480x3, .i8⟩ : BufTy).Contents (Elt Ideal)) (i : S5120x4480.Idx)

/-- The 24-bit word of three bytes, read at an index. -/
theorem word_apply : val_main_v12 (F := Ideal) x1 i = join (x1 (at3 (i 0) (i 1) 0)) (x1 (at3 (i 0) (i 1) 1)) (x1 (at3 (i 0) (i 1) 2)) := by
  have h0 : (i 0).val < 5120 := (i 0).isLt
  have h1 : (i 1).val < 4480 := (i 1).isLt
  have e0 : idx_main_v1 (idx_main_v2 i) = at3 (i 0) (i 1) 0 := by
    funext a; apply Fin.ext
    match a with
    | ⟨0, _⟩ => show ((i 0).val * 4480 + (i 1).val) / 4480 = (i 0).val; omega
    | ⟨1, _⟩ => show ((i 0).val * 4480 + (i 1).val) / 1 % 4480 = (i 1).val; omega
    | ⟨2, _⟩ => rfl
  have e1 : idx_main_v3 (idx_main_v4 i) = at3 (i 0) (i 1) 1 := by
    funext a; apply Fin.ext
    match a with
    | ⟨0, _⟩ => show ((i 0).val * 4480 + (i 1).val) / 4480 = (i 0).val; omega
    | ⟨1, _⟩ => show ((i 0).val * 4480 + (i 1).val) / 1 % 4480 = (i 1).val; omega
    | ⟨2, _⟩ => rfl
  have e2 : idx_main_v8 (idx_main_v9 i) = at3 (i 0) (i 1) 2 := by
    funext a; apply Fin.ext
    match a with
    | ⟨0, _⟩ => show ((i 0).val * 4480 + (i 1).val) / 4480 = (i 0).val; omega
    | ⟨1, _⟩ => show ((i 0).val * 4480 + (i 1).val) / 1 % 4480 = (i 1).val; omega
    | ⟨2, _⟩ => rfl
  show IntOp.ori (IntOp.ori (val_main_v2 (F := Ideal) x1 i) (IntOp.shli .host (val_main_v4 (F := Ideal) x1 i) 8#32)) (IntOp.shli .host (val_main_v9 (F := Ideal) x1 i) 16#32) = _
  rw [val_main_v2_apply, val_main_v1_apply, val_main_v4_apply, val_main_v3_apply, val_main_v9_apply, val_main_v8_apply, e0, e1, e2,
    val_main_v0_apply, val_main_v0_apply, val_main_v0_apply]
  rfl

/-- A field of the 24-bit word shifted out and decoded is the weight. -/
theorem dec_field (f : Fin 4) (k : BitVec 32) (hk : k = BitVec.ofNat 32 (6 * f.val)) :
    refDec (IntOp.andi (IntOp.shrui .host (val_main_v12 (F := Ideal) x1 i) k) 63#32) = ((wt x1 f (i 0) (i 1) : ℝ) : EReal) := by
  have hs : IntOp.shrui .host (val_main_v12 (F := Ideal) x1 i) k = val_main_v12 (F := Ideal) x1 i >>> (6 * f.val) := by
    subst hk
    fin_cases f <;> rfl
  rw [hs, word_apply, IntOp.andi, field, refDec_code _ (code_lt _ _ _ _)]
  rfl

theorem decoded0 : val_main_v47 (F := Ideal) x1 i = ((wt x1 0 (i 0) (i 1) : ℝ) : EReal) :=
  Eq.trans (show _ = refDec (IntOp.andi (IntOp.shrui .host (val_main_v12 (F := Ideal) x1 i) 0#32) 63#32) from rfl)
    (dec_field x1 i 0 0#32 rfl)

theorem decoded1 : val_main_v84 (F := Ideal) x1 i = ((wt x1 1 (i 0) (i 1) : ℝ) : EReal) :=
  Eq.trans (show _ = refDec (IntOp.andi (IntOp.shrui .host (val_main_v12 (F := Ideal) x1 i) 6#32) 63#32) from rfl)
    (dec_field x1 i 1 6#32 rfl)

theorem decoded2 : val_main_v122 (F := Ideal) x1 i = ((wt x1 2 (i 0) (i 1) : ℝ) : EReal) :=
  Eq.trans (show _ = refDec (IntOp.andi (IntOp.shrui .host (val_main_v12 (F := Ideal) x1 i) 12#32) 63#32) from rfl)
    (dec_field x1 i 2 12#32 rfl)

theorem decoded3 : val_main_v160 (F := Ideal) x1 i = ((wt x1 3 (i 0) (i 1) : ℝ) : EReal) :=
  Eq.trans (show _ = refDec (IntOp.andi (IntOp.shrui .host (val_main_v12 (F := Ideal) x1 i) 18#32) 63#32) from rfl)
    (dec_field x1 i 3 18#32 rfl)

end Cert.ReferenceIdeal.Res

end
-- ==== Proof.RValue.lean ====
/-
  The reference's result at an index: for batch row `b` and output column `n`, the four fields' sums over the 4480 words of
  the row, added, times the column's scale (`ref_apply`), and the run that leaves it (`run_value`, `quiescent`).
-/
module

public import proofs.«01_k».proof.Proof.RWeight
public import Idealize.ShloMosaic.Lib.Claim

@[expose] public section

noncomputable section

namespace Cert.ReferenceIdeal.Res

open Cert.ReferenceIdeal Cert.ReferenceIdeal.Gen Cert.ReferenceIdeal.Read Cert.Fp6
open Idealize.ShloMosaic Idealize.ShloMosaic.TcCoe Idealize.SL.Sem Idealize.ShloMosaic.StableHlo

/-- Batch row `b`, position `p` of the activations. -/
abbrev xAt (b : Fin 8) (p : Fin 17920) : S8x1x17920.Idx := fun a => match a with
  | ⟨0, _⟩ => b
  | ⟨1, _⟩ => ⟨0, Nat.one_pos⟩
  | ⟨2, _⟩ => p

/-- Position `f` of word `J`. -/
abbrev pos (J : Fin 4480) (f : Fin 4) : Fin 17920 := ⟨4 * J.val + f.val, by omega⟩

/-- Column `n` of the scales. -/
abbrev sAt (n : Fin 5120) : S5120.Idx := fun a => match a with
  | ⟨0, _⟩ => n

/-- The sum over the words of a row of one field's activations times weights. -/
def fieldSum (x0 : S8x1x17920.Idx → EReal) (x1 : S5120x4480x3.Idx → BitVec 8) (f : Fin 4) (b : Fin 8) (n : Fin 5120) : EReal :=
  ∑ J : Fin 4480, x0 (xAt b (pos J f)) * ((wt x1 f n J : ℝ) : EReal)

/-- The result at batch row `b`, column `n`. -/
def result (x0 : S8x1x17920.Idx → EReal) (x1 : S5120x4480x3.Idx → BitVec 8) (x2 : S5120.Idx → EReal) (b : Fin 8) (n : Fin 5120) : EReal :=
  (fieldSum x0 x1 0 b n + fieldSum x0 x1 1 b n + fieldSum x0 x1 2 b n + fieldSum x0 x1 3 b n) * x2 (sAt n)

variable (x0 : (⟨S8x1x17920, .bf16⟩ : BufTy).Contents (Elt Ideal)) (x1 : (⟨S5120x4480x3, .i8⟩ : BufTy).Contents (Elt Ideal))
  (x2 : (⟨S5120, .f32⟩ : BufTy).Contents (Elt Ideal)) (i : S8x1x5120.Idx)

theorem slice_apply (f : Fin 4) (h : S8x1x17920.SlicesBy ![0, 0, f.val] ![1, 1, 4] S8x1x4480) (j : S8x1x4480.Idx) :
    Host.slice S8x1x4480 ![0, 0, f.val] ![1, 1, 4] x0 h j = x0 (xAt (j 0) (pos (j 2) f)) := by
  unfold Host.slice
  congr 1
  funext a; apply Fin.ext
  match a with
  | ⟨0, _⟩ => show 0 + 1 * (j 0).val = (j 0).val; omega
  | ⟨1, _⟩ =>
    have h1 : (j 1).val < 1 := (j 1).isLt
    show 0 + 1 * (j 1).val = 0; omega
  | ⟨2, _⟩ => show f.val + 4 * (j 2).val = 4 * (j 2).val + f.val; omega

theorem dot0 : val_main_v49 (F := Ideal) x0 x1 i = fieldSum x0 x1 0 (i 0) (i 2) := by
  rw [val_main_v49_apply]
  refine Finset.sum_congr rfl fun k _ => ?_
  rw [decoded0]
  exact congrArg (· * _) (slice_apply x0 0 _ _)

theorem dot1 : val_main_v86 (F := Ideal) x0 x1 i = fieldSum x0 x1 1 (i 0) (i 2) := by
  rw [val_main_v86_apply]
  refine Finset.sum_congr rfl fun k _ => ?_
  rw [decoded1]
  exact congrArg (· * _) (slice_apply x0 1 _ _)

theorem dot2 : val_main_v124 (F := Ideal) x0 x1 i = fieldSum x0 x1 2 (i 0) (i 2) := by
  rw [val_main_v124_apply]
  refine Finset.sum_congr rfl fun k _ => ?_
  rw [decoded2]
  exact congrArg (· * _) (slice_apply x0 2 _ _)

theorem dot3 : val_main_v162 (F := Ideal) x0 x1 i = fieldSum x0 x1 3 (i 0) (i 2) := by
  rw [val_main_v162_apply]
  refine Finset.sum_congr rfl fun k _ => ?_
  rw [decoded3]
  exact congrArg (· * _) (slice_apply x0 3 _ _)

/-- The reference's result, read at an index. -/
theorem ref_apply : val_main_v167 (F := Ideal) x0 x1 x2 i = result x0 x1 x2 (i 0) (i 2) := by
  show val_main_v163 (F := Ideal) x0 x1 i * val_main_v165 (F := Ideal) x2 i = _
  rw [val_main_v165_apply, val_main_v164_apply]
  show (val_main_v49 (F := Ideal) x0 x1 i + val_main_v86 (F := Ideal) x0 x1 i + val_main_v124 (F := Ideal) x0 x1 i + val_main_v162 (F := Ideal) x0 x1 i) * _ = _
  rw [dot0, dot1, dot2, dot3]
  rfl

/-- Every run of the reference over the reals leaves `result` in its result buffer, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v167) = (fun i : S8x1x5120.Idx => result (m ((c.tc : Thread nD τ).loc main_arg0)) (m ((c.tc : Thread nD τ).loc main_arg1))
          (m ((c.tc : Thread nD τ).loc main_arg2)) (i 0) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v167_eq (launchContents m c)).trans (funext fun i => ref_apply _ _ _ i)), (h c).2⟩)
    (Value.run m ρ)

end Cert.ReferenceIdeal.Res

end
-- ==== Proof.Equation.lean ====
/-
  The kernel's result is the reference's: the accumulator of a column of the grid is the four field sums over 4096
  (`acc_eq`), the constant 4096 of the last step takes that back (`times_4096`), and the host's rearrangement after the
  kernel puts row `i` of group `N` at column `4 N + i` (`res_eq`).
-/
module

public import proofs.«01_k».proof.Proof.KSum
public import proofs.«01_k».proof.Proof.KWindow
public import proofs.«01_k».proof.Proof.KArray
public import proofs.«01_k».proof.Proof.RValue

@[expose] public section

noncomputable section

namespace Cert.Equation

open Cert.KernelIdeal Cert.KernelIdeal.Gen Cert.KernelIdeal.Step Cert.KernelIdeal.Block Cert.KernelIdeal.Host Cert.KernelIdeal.Window Cert.Fp6
open Idealize.ShloMosaic Idealize.ShloMosaic.TcCoe Idealize.SL.Sem Idealize.ShloMosaic.ValueIdx
open Cert.ReferenceIdeal.Res (fieldSum result wt)

/-! ## Sums -/

/-- A sum over 2560 expanded columns is a sum over 640 words and 4 bytes. -/
theorem sum_bytes (g : Fin 640 → Fin 4 → EReal) :
    ∑ l : Fin 2560, g ⟨l.val / 4, by omega⟩ ⟨l.val % 4, by omega⟩ = ∑ j : Fin 640, ∑ q : Fin 4, g j q := by
  rw [← Fintype.sum_prod_type']
  exact Fintype.sum_equiv (finProdFinEquiv (m := 640) (n := 4)).symm _ _ (fun l => rfl)

/-- A sum over 4480 words is a sum over 7 blocks of 640. -/
theorem sum_blocks (g : Fin 4480 → EReal) : ∑ J : Fin 4480, g J = ∑ k : Fin 7, ∑ j : Fin 640, g ⟨640 * k.val + j.val, by omega⟩ := by
  rw [← Fintype.sum_prod_type' (f := fun (k : Fin 7) (j : Fin 640) => g ⟨640 * k.val + j.val, by omega⟩)]
  refine (Fintype.sum_equiv (finProdFinEquiv (m := 7) (n := 640)) _ _ (fun x => ?_)).symm
  exact congrArg g (Fin.ext (Nat.add_comm _ _))

/-- Multiplying by 4096 goes inside a sum, whatever its terms. -/
theorem mul_4096_sum {ι : Type} (s : Finset ι) (g : ι → EReal) :
    (∑ x ∈ s, g x) * ((4096 : ℝ) : EReal) = ∑ x ∈ s, g x * ((4096 : ℝ) : EReal) := by
  classical
  induction s using Finset.induction_on with
  | empty => simp
  | insert a s ha ih =>
    rw [Finset.sum_insert ha, Finset.sum_insert ha, ← ih]
    exact EReal.right_distrib_of_nonneg_of_ne_top (by exact_mod_cast (by norm_num : (0 : ℝ) ≤ 4096)) (EReal.coe_ne_top _) _ _

/-- A product with a 4096th, times 4096. -/
theorem times_4096 (x : EReal) (w : ℝ) : x * ((w / 4096 : ℝ) : EReal) * ((4096 : ℝ) : EReal) = x * (w : EReal) := by
  rw [mul_assoc, ← EReal.coe_mul, div_mul_cancel₀ _ (by norm_num)]

/-- The kernel's constant. -/
theorem bits_4096 : Ideal.ofBits .f32 0x45800000#32 = ((4096 : ℝ) : EReal) := by
  simp [Ideal.ofBits, Ideal.ieee, -EReal.coe_mul]; norm_num

/-! ## One point of the grid -/

/-- The decoded weight, its bytes read by coordinates. -/
theorem wt_ix3 (x1 : S5120x4480x3.Idx → BitVec 8) (f : Fin 4) (n : Fin 5120) (J : Fin 4480) :
    wt x1 f n J = decR (code f (x1 (ix3 n J 0)) (x1 (ix3 n J 1)) (x1 (ix3 n J 2))).toNat := by
  have e : ∀ p : Fin 3, Cert.ReferenceIdeal.Res.at3 n J p = ix3 n J p := fun p => by
    funext a
    match a with
    | ⟨0, _⟩ => rfl
    | ⟨1, _⟩ => rfl
    | ⟨2, _⟩ => rfl
  unfold wt Cert.ReferenceIdeal.Res.codeAt
  rw [e 0, e 1, e 2]

variable (m : (ℓ : Loc nD τ sig) → Buf (Elt Ideal) ℓ) (c : Dev nD)

/-- The arguments as the reference reads them. -/
abbrev X : S8x1x17920.Idx → EReal := m ((c : Thread nD τ).loc main_arg0)
abbrev W : S5120x4480x3.Idx → BitVec 8 := m ((c : Thread nD τ).loc main_arg1)
abbrev S : S5120.Idx → EReal := m ((c : Thread nD τ).loc main_arg2)

/-- The row of the weights that row `i` of group `N` is. -/
abbrev colOf (N : Fin 1280) (i : Fin 4) : Fin 5120 := ⟨4 * N.val + i.val, by omega⟩

/-- The term of word `J` in the field sum, over 4096. -/
abbrev term (f : Fin 4) (b : Fin 8) (n : Fin 5120) (J : Fin 4480) : EReal :=
  X m c (ix3 b 0 ⟨4 * J.val + f.val, by omega⟩) * ((wt (W m c) f n J / 4096 : ℝ) : EReal)

/-- A field's product, its summand given by word and byte. -/
theorem part_of (x0 : Vec Ideal S4x32x2560 .bf16) (x1 : Vec Ideal S3x1024x640 .i8) (f : Fin 4) (r : Fin 32) (n' : Fin 256)
    (G : Fin 640 → Fin 4 → EReal)
    (hG : ∀ l : Fin 2560, (x0 (ix3 f r l) : EReal)
      * ((decR (bcode x1 f (rowOf n' (l.val % 4) (Nat.mod_lt _ (by decide))) ⟨l.val / 4, by omega⟩).toNat / 4096 : ℝ) : EReal)
      = G ⟨l.val / 4, by omega⟩ ⟨l.val % 4, by omega⟩) :
    part x0 x1 f r n' = ∑ j : Fin 640, ∑ q : Fin 4, G j q := by
  rw [← sum_bytes]
  exact Finset.sum_congr rfl fun l _ => hG l

/-- A field's product at a point is its terms over the point's words. -/
theorem part_eq (g : Fin 5) (k : Fin 7) (f i : Fin 4) (b : Fin 8) (n' : Fin 256) (N : Fin 1280) (hN : N.val = 256 * g.val + n'.val) :
    ptPart m c (7 * g.val + k.val) f ⟨8 * i.val + b.val, by omega⟩ n' = ∑ j : Fin 640, term m c f b (colOf N i) ⟨640 * k.val + j.val, by omega⟩ := by
  have h : 7 * g.val + k.val < cfg0.N := lt_of_lt_of_eq (by omega) N_0.symm
  unfold ptPart
  rw [dif_pos h]
  refine (part_of _ _ f _ n' (fun (j : Fin 640) (q : Fin 4) => if i = q then term m c f b (colOf N i) ⟨640 * k.val + j.val, by omega⟩ else 0)
    (fun l => ?_)).trans ?_
  · have hJ : 640 * k.val + l.val / 4 < 4480 := by omega
    rw [x_block m c ⟨7 * g.val + k.val, h⟩ f _ l ⟨4 * (640 * k.val + l.val / 4) + l.val % 4, by omega⟩ (by show _ = 2560 * ((7 * g.val + k.val) % 7) + l.val; dsimp only; omega)]
    rw [xk_apply _ f i ⟨l.val % 4, by omega⟩ b ⟨640 * k.val + l.val / 4, hJ⟩]
    dsimp only
    by_cases hi : i = ⟨l.val % 4, by omega⟩
    · have hv : i.val = l.val % 4 := congrArg Fin.val hi
      rw [if_pos hi, if_pos hi]
      have hw : ∀ p : Fin 3, pk (iblk m c 1 ⟨7 * g.val + k.val, h⟩) p (rowOf n' (l.val % 4) (Nat.mod_lt _ (by decide))) ⟨l.val / 4, by omega⟩
          = W m c (ix3 (colOf N i) ⟨640 * k.val + l.val / 4, hJ⟩ p) := fun p =>
        w_block m c ⟨7 * g.val + k.val, h⟩ p _ _ (colOf N i) (by show 4 * N.val + i.val = 1024 * ((7 * g.val + k.val) / 7) + (4 * n'.val + l.val % 4); omega)
          ⟨640 * k.val + l.val / 4, hJ⟩ (by show 640 * k.val + l.val / 4 = 640 * ((7 * g.val + k.val) % 7) + l.val / 4; omega)
      unfold bcode
      rw [hw 0, hw 1, hw 2, ← wt_ix3]
    · rw [if_neg hi, if_neg hi, zero_mul]
  · refine Finset.sum_congr rfl fun j _ => ?_
    rw [Finset.sum_ite_eq]
    simp

/-- The last accumulator of a column of the grid, times 4096: the four field sums. -/
theorem acc_eq (g : Fin 5) (i : Fin 4) (b : Fin 8) (n' : Fin 256) (N : Fin 1280) (hN : N.val = 256 * g.val + n'.val)
    (h : 7 * g.val + 6 < cfg0.N) :
    (scr m c (7 * g.val + 6) h (ix2 ⟨8 * i.val + b.val, by omega⟩ n') : EReal) * ((4096 : ℝ) : EReal)
      = ∑ f : Fin 4, fieldSum (X m c) (W m c) f b (colOf N i) := by
  rw [scr_sum m c g.val _ n' 6 (by omega) h, ← Fin.sum_univ_eq_sum_range (fun k' => ptSum m c (7 * g.val + k') ⟨8 * i.val + b.val, by omega⟩ n') 7]
  unfold ptSum
  rw [Finset.sum_comm, mul_4096_sum]
  refine Finset.sum_congr rfl fun f _ => ?_
  rw [Finset.sum_congr rfl fun k _ => part_eq m c g k f i b n' N hN, ← sum_blocks (term m c f b (colOf N i)), mul_4096_sum]
  unfold fieldSum
  refine Finset.sum_congr rfl fun J _ => ?_
  rw [times_4096]
  congr 2
  funext a
  match a with
  | ⟨0, _⟩ => rfl
  | ⟨1, _⟩ => rfl
  | ⟨2, _⟩ => rfl

/-! ## The result -/

/-- The packed output at row `8 i + b`, group `N`. -/
theorem out_eq (i : Fin 4) (b : Fin 8) (N : Fin 1280) :
    (outG m c (ix2 ⟨8 * i.val + b.val, by omega⟩ N) : EReal) = result (X m c) (W m c) (S m c) b (colOf N i) := by
  have hg : N.val / 256 < 5 := by omega
  have hN : N.val = 256 * (N.val / 256) + N.val % 256 := by omega
  have hl : 7 * (N.val / 256) + 6 < cfg0.N := lt_of_lt_of_eq (by omega) N_0.symm
  have hs : (iblk m c 2 ⟨7 * (N.val / 256) + 6, hl⟩ : Vec Ideal S32x256 .f32) (ix2 ⟨8 * i.val + b.val, by omega⟩ ⟨N.val % 256, by omega⟩)
      = S m c (ix1 (colOf N i)) :=
    (s_block m c ⟨7 * (N.val / 256) + 6, hl⟩ _ _ N (by show N.val = 256 * ((7 * (N.val / 256) + 6) / 7) + N.val % 256; omega)).trans (sc_apply _ i b N)
  have e : (outG m c (ix2 ⟨8 * i.val + b.val, by omega⟩ N) : EReal)
      = (scr m c (7 * (N.val / 256) + 6) hl (ix2 ⟨8 * i.val + b.val, by omega⟩ ⟨N.val % 256, by omega⟩) : EReal) * Ideal.ofBits .f32 0x45800000#32
        * (iblk m c 2 ⟨7 * (N.val / 256) + 6, hl⟩ : Vec Ideal S32x256 .f32) (ix2 ⟨8 * i.val + b.val, by omega⟩ ⟨N.val % 256, by omega⟩) := rfl
  rw [e, bits_4096, hs, acc_eq m c ⟨N.val / 256, hg⟩ i b ⟨N.val % 256, by omega⟩ N hN hl, Fin.sum_univ_four]
  unfold result
  congr 2
  funext a
  match a with
  | ⟨0, _⟩ => rfl

/-- The kernel's result at an index is the reference's. -/
theorem res_eq : resV (outG m c) = fun y : S8x1x5120.Idx => result (X m c) (W m c) (S m c) (y 0) (y 2) := by
  funext y
  have h0 : (y 0).val < 8 := (y 0).isLt
  have h1 : (y 1).val < 1 := (y 1).isLt
  have h2 : (y 2).val < 5120 := (y 2).isLt
  unfold resV
  rw [shapeCast_apply _ shapeCasts_S8x1280x4_S8x1x5120 _ (ix3 (y 0) ⟨(y 2).val / 4, by omega⟩ ⟨(y 2).val % 4, by omega⟩) (by
    rw [Shape.rowMajor_val_three, Shape.rowMajor_val_three]
    show ((y 0).val * 1280 + (y 2).val / 4) * 4 + (y 2).val % 4 = ((y 0).val * 1 + (y 1).val) * 5120 + (y 2).val
    omega)]
  have ht : ∀ Z : Vec Ideal S4x8x1280 .bf16, transpose S8x1280x4 [1, 2, 0] Z transposes_S4x8x1280_S8x1280x4_1_2_0
      (ix3 (y 0) ⟨(y 2).val / 4, by omega⟩ ⟨(y 2).val % 4, by omega⟩) = Z (ix3 ⟨(y 2).val % 4, by omega⟩ (y 0) ⟨(y 2).val / 4, by omega⟩) := by
    intro Z
    unfold transpose
    congr 1
    funext a
    match a with
    | ⟨0, _⟩ => rfl
    | ⟨1, _⟩ => rfl
    | ⟨2, _⟩ => rfl
  rw [ht, shapeCast_apply _ shapeCasts_S32x1280_S4x8x1280 _ (ix2 ⟨8 * ((y 2).val % 4) + (y 0).val, by omega⟩ ⟨(y 2).val / 4, by omega⟩) (by
    rw [Shape.rowMajor_val_two, Shape.rowMajor_val_three]
    show (8 * ((y 2).val % 4) + (y 0).val) * 1280 + (y 2).val / 4 = ((y 2).val % 4 * 8 + (y 0).val) * 1280 + (y 2).val / 4
    omega)]
  rw [out_eq m c ⟨(y 2).val % 4, by omega⟩ (y 0) ⟨(y 2).val / 4, by omega⟩]
  congr 1
  exact Fin.ext (by show 4 * ((y 2).val / 4) + (y 2).val % 4 = (y 2).val; omega)

end Cert.Equation

end
-- ==== Proof.lean ====
/-
  The proof of `Cert.Claim`: the kernel program and its idealization run, leave their arguments and end with every counter
  at zero (the generated frames); so does the reference (`reference_quiescent`); and over the extended reals the kernel's
  result and the reference's are one function of the arguments (`same_result`, by Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments, and ends with every counter at zero: it has no semaphore. -/
theorem reference_quiescent : quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Res.run_value m ρ)

/-- The kernel's result and the reference's are equal at equal arguments. -/
theorem same_result : algebraic_KernelIdeal_ReferenceIdeal (hKernelIdeal := Cert.KernelIdeal.Gen.facts)
    (hReferenceIdeal := Cert.ReferenceIdeal.Gen.facts) := fun m ρ m' ρ' _ hm =>
  ⟨fun c => Cert.KernelIdeal.Step.resV (Cert.KernelIdeal.Step.outG m c), Cert.KernelIdeal.Step.run m ρ,
    (θ_run _ _ _).mono (fun r h c => ⟨(h c).1.trans (by
      rw [(hm c).1, (hm c).2.1, (hm c).2.2]
      exact (Cert.Equation.res_eq m c).symm), (h c).2⟩) (Cert.ReferenceIdeal.Res.run_value m' ρ')⟩

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference_quiescent, trivial, same_result⟩

end Cert.Proof

end
